-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 8192]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .f32) (main_arg1 : FVec F S4x128 .f32) (main_arg2 : FVec F S128x256 .f32) (main_arg3 : FVec F S128x256 .f32) : IVec S4x1024x256 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  main_v2
-- ==== Pre_finite_x_ReferenceIdeal.lean ====
abbrev S4x1024x8192 : Shape := ⟨3, ![4, 1024, 8192]⟩
abbrev S4x128 : Shape := ⟨2, ![4, 128]⟩
abbrev S128x8192 : Shape := ⟨2, ![128, 8192]⟩
abbrev S_ : Shape := ⟨0, ![]⟩

class Facts : Prop where
  bcast_S_S4x1024x8192 : S_.BroadcastsInDim S4x1024x8192 (![] : Fin 0 → Fin S4x1024x8192.rank)

variable [Facts]

def fn {F : FTy → Type} [FloatOps F] (main_arg0 : FVec F S4x1024x8192 .f32) (main_arg1 : FVec F S4x128 .f32) (main_arg2 : FVec F S128x8192 .f32) (main_arg3 : FVec F S128x8192 .f32) : IVec S4x1024x8192 1 :=
  let main_v0 : FVec F S4x1024x8192 .f32 := Host.absf main_arg0
  let main_cst : FVec F S_ .f32 := constant S_ .f32 0x7F800000#32
  let main_v1 : FVec F S4x1024x8192 .f32 := broadcastInDim S4x1024x8192 ![] bcast_S_S4x1024x8192 main_cst
  let main_v2 : IVec S4x1024x8192 1 := cmpf .olt main_v0 main_v1
  main_v2
-- ==== Kernel.lean ====
abbrev S4x1024x256 : Shape := ⟨3, ![4, 1024, 256]⟩
abbrev S4x128 : Shape := ⟨2, ![4, 128]⟩
abbrev S128x256 : Shape := ⟨2, ![128, 256]⟩
abbrev S8x8x1024 : Shape := ⟨3, ![8, 8, 1024]⟩
abbrev S4x8x1024 : Shape := ⟨3, ![4, 8, 1024]⟩
abbrev S8 : Shape := ⟨1, ![8]⟩
abbrev S4 : Shape := ⟨1, ![4]⟩
abbrev S_ : Shape := ⟨0, ![]⟩
abbrev S4x1024 : Shape := ⟨2, ![4, 1024]⟩
abbrev S8x1024 : Shape := ⟨2, ![8, 1024]⟩
abbrev S1x8x1024 : Shape := ⟨3, ![1, 8, 1024]⟩
abbrev S1 : Shape := ⟨1, ![1]⟩
abbrev S4x256 : Shape := ⟨2, ![4, 256]⟩
abbrev S4x1024x1 : Shape := ⟨3, ![4, 1024, 1]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x1024x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x1024x256, .f32⟩
  | .local _ .vmem, ⟨0, _⟩ => ⟨S4x1024x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x1024x256, .f32⟩
  | .local _ .vmem, ⟨5, _⟩ => ⟨S8x8x1024, .bf16⟩
  | .local _ .vmem, ⟨6, _⟩ => ⟨S4x8x1024, .bf16⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v22 : BitVec 32 := Scalar.subi v2 v20
  let c1_i32_6 : BitVec 32 := 1#32
  let v23 : BitVec 32 := Scalar.addi v22 c1_i32_6
  let c8_i32_7 : BitVec 32 := 8#32
  let c0_i32_8 : BitVec 32 := 0#32
  let v24 : BitVec 1 := Scalar.cmpi .eq c8_i32_7 c0_i32_8
  let c1_i32_9 : BitVec 32 := 1#32
  let v25 : BitVec 32 := Scalar.select v24 c1_i32_9 c8_i32_7
  let v26 : BitVec 32 := Scalar.remsi v23 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let v34 : BitVec 32 := Scalar.addi v20 v33
  let c1_i32_69 : BitVec 32 := 1#32
  let v146 : BitVec 32 := Scalar.muli v34 c1_i32_69
  let v147 : BitVec 32 := Scalar.addi c0_i32_70 v146
  v147.toNat
def k0_dev2 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v35 : BitVec 32 := Scalar.subi v2 v20
  let c2_i32 : BitVec 32 := 2#32
  let v36 : BitVec 32 := Scalar.addi v35 c2_i32
  let c8_i32_13 : BitVec 32 := 8#32
  let c0_i32_14 : BitVec 32 := 0#32
  let v37 : BitVec 1 := Scalar.cmpi .eq c8_i32_13 c0_i32_14
  let c1_i32_15 : BitVec 32 := 1#32
  let v38 : BitVec 32 := Scalar.select v37 c1_i32_15 c8_i32_13
  let v39 : BitVec 32 := Scalar.remsi v36 v38
  let c0_i32_17 : BitVec 32 := 0#32
  let v41 : BitVec 1 := Scalar.cmpi .slt v39 c0_i32_17
  let c0_i32_18 : BitVec 32 := 0#32
  let v42 : BitVec 1 := Scalar.cmpi .slt v38 c0_i32_18
  let v43 : BitVec 1 := Scalar.xori v41 v42
  let c0_i32_16 : BitVec 32 := 0#32
  let v40 : BitVec 1 := Scalar.cmpi .ne v39 c0_i32_16
  let v44 : BitVec 1 := Scalar.andi v43 v40
  let v45 : BitVec 32 := Scalar.addi v39 v38
  let v46 : BitVec 32 := Scalar.select v44 v45 v39
  let v47 : BitVec 32 := Scalar.addi v20 v46
  let c1_i32_72 : BitVec 32 := 1#32
  let v148 : BitVec 32 := Scalar.muli v47 c1_i32_72
  let v149 : BitVec 32 := Scalar.addi c0_i32_73 v148
  v149.toNat
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v48 : BitVec 32 := Scalar.subi v2 v20
  let c3_i32 : BitVec 32 := 3#32
  let v49 : BitVec 32 := Scalar.addi v48 c3_i32
  let c8_i32_19 : BitVec 32 := 8#32
  let c0_i32_20 : BitVec 32 := 0#32
  let v50 : BitVec 1 := Scalar.cmpi .eq c8_i32_19 c0_i32_20
  let c1_i32_21 : BitVec 32 := 1#32
  let v51 : BitVec 32 := Scalar.select v50 c1_i32_21 c8_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v60 : BitVec 32 := Scalar.addi v20 v59
  let c1_i32_75 : BitVec 32 := 1#32
  let v150 : BitVec 32 := Scalar.muli v60 c1_i32_75
  let v151 : BitVec 32 := Scalar.addi c0_i32_76 v150
  v151.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v61 : BitVec 32 := Scalar.subi v2 v20
  let c4_i32 : BitVec 32 := 4#32
  let v62 : BitVec 32 := Scalar.addi v61 c4_i32
  let c8_i32_25 : BitVec 32 := 8#32
  let c0_i32_26 : BitVec 32 := 0#32
  let v63 : BitVec 1 := Scalar.cmpi .eq c8_i32_25 c0_i32_26
  let c1_i32_27 : BitVec 32 := 1#32
  let v64 : BitVec 32 := Scalar.select v63 c1_i32_27 c8_i32_25
  let v65 : BitVec 32 := Scalar.remsi v62 v64
  let c0_i32_29 : BitVec 32 := 0#32
  let v67 : BitVec 1 := Scalar.cmpi .slt v65 c0_i32_29
  let c0_i32_30 : BitVec 32 := 0#32
  let v68 : BitVec 1 := Scalar.cmpi .slt v64 c0_i32_30
  let v69 : BitVec 1 := Scalar.xori v67 v68
  let c0_i32_28 : BitVec 32 := 0#32
  let v66 : BitVec 1 := Scalar.cmpi .ne v65 c0_i32_28
  let v70 : BitVec 1 := Scalar.andi v69 v66
  let v71 : BitVec 32 := Scalar.addi v65 v64
  let v72 : BitVec 32 := Scalar.select v70 v71 v65
  let v73 : BitVec 32 := Scalar.addi v20 v72
  let c1_i32_78 : BitVec 32 := 1#32
  let v152 : BitVec 32 := Scalar.muli v73 c1_i32_78
  let v153 : BitVec 32 := Scalar.addi c0_i32_79 v152
  v153.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v74 : BitVec 32 := Scalar.subi v2 v20
  let c5_i32 : BitVec 32 := 5#32
  let v75 : BitVec 32 := Scalar.addi v74 c5_i32
  let c8_i32_31 : BitVec 32 := 8#32
  let c0_i32_32 : BitVec 32 := 0#32
  let v76 : BitVec 1 := Scalar.cmpi .eq c8_i32_31 c0_i32_32
  let c1_i32_33 : BitVec 32 := 1#32
  let v77 : BitVec 32 := Scalar.select v76 c1_i32_33 c8_i32_31
  let v78 : BitVec 32 := Scalar.remsi v75 v77
  let c0_i32_35 : BitVec 32 := 0#32
  let v80 : BitVec 1 := Scalar.cmpi .slt v78 c0_i32_35
  let c0_i32_36 : BitVec 32 := 0#32
  let v81 : BitVec 1 := Scalar.cmpi .slt v77 c0_i32_36
  let v82 : BitVec 1 := Scalar.xori v80 v81
  let c0_i32_34 : BitVec 32 := 0#32
  let v79 : BitVec 1 := Scalar.cmpi .ne v78 c0_i32_34
  let v83 : BitVec 1 := Scalar.andi v82 v79
  let v84 : BitVec 32 := Scalar.addi v78 v77
  let v85 : BitVec 32 := Scalar.select v83 v84 v78
  let v86 : BitVec 32 := Scalar.addi v20 v85
  let c1_i32_81 : BitVec 32 := 1#32
  let v154 : BitVec 32 := Scalar.muli v86 c1_i32_81
  let v155 : BitVec 32 := Scalar.addi c0_i32_82 v154
  v155.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v87 : BitVec 32 := Scalar.subi v2 v20
  let c6_i32 : BitVec 32 := 6#32
  let v88 : BitVec 32 := Scalar.addi v87 c6_i32
  let c8_i32_37 : BitVec 32 := 8#32
  let c0_i32_38 : BitVec 32 := 0#32
  let v89 : BitVec 1 := Scalar.cmpi .eq c8_i32_37 c0_i32_38
  let c1_i32_39 : BitVec 32 := 1#32
  let v90 : BitVec 32 := Scalar.select v89 c1_i32_39 c8_i32_37
  let v91 : BitVec 32 := Scalar.remsi v88 v90
  let c0_i32_41 : BitVec 32 := 0#32
  let v93 : BitVec 1 := Scalar.cmpi .slt v91 c0_i32_41
  let c0_i32_42 : BitVec 32 := 0#32
  let v94 : BitVec 1 := Scalar.cmpi .slt v90 c0_i32_42
  let v95 : BitVec 1 := Scalar.xori v93 v94
  let c0_i32_40 : BitVec 32 := 0#32
  let v92 : BitVec 1 := Scalar.cmpi .ne v91 c0_i32_40
  let v96 : BitVec 1 := Scalar.andi v95 v92
  let v97 : BitVec 32 := Scalar.addi v91 v90
  let v98 : BitVec 32 := Scalar.select v96 v97 v91
  let v99 : BitVec 32 := Scalar.addi v20 v98
  let c1_i32_84 : BitVec 32 := 1#32
  let v156 : BitVec 32 := Scalar.muli v99 c1_i32_84
  let v157 : BitVec 32 := Scalar.addi c0_i32_85 v156
  v157.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v100 : BitVec 32 := Scalar.subi v2 v20
  let c7_i32 : BitVec 32 := 7#32
  let v101 : BitVec 32 := Scalar.addi v100 c7_i32
  let c8_i32_43 : BitVec 32 := 8#32
  let c0_i32_44 : BitVec 32 := 0#32
  let v102 : BitVec 1 := Scalar.cmpi .eq c8_i32_43 c0_i32_44
  let c1_i32_45 : BitVec 32 := 1#32
  let v103 : BitVec 32 := Scalar.select v102 c1_i32_45 c8_i32_43
  let v104 : BitVec 32 := Scalar.remsi v101 v103
  let c0_i32_47 : BitVec 32 := 0#32
  let v106 : BitVec 1 := Scalar.cmpi .slt v104 c0_i32_47
  let c0_i32_48 : BitVec 32 := 0#32
  let v107 : BitVec 1 := Scalar.cmpi .slt v103 c0_i32_48
  let v108 : BitVec 1 := Scalar.xori v106 v107
  let c0_i32_46 : BitVec 32 := 0#32
  let v105 : BitVec 1 := Scalar.cmpi .ne v104 c0_i32_46
  let v109 : BitVec 1 := Scalar.andi v108 v105
  let v110 : BitVec 32 := Scalar.addi v104 v103
  let v111 : BitVec 32 := Scalar.select v109 v110 v104
  let v112 : BitVec 32 := Scalar.addi v20 v111
  let c1_i32_87 : BitVec 32 := 1#32
  let v158 : BitVec 32 := Scalar.muli v112 c1_i32_87
  let v159 : BitVec 32 := Scalar.addi c0_i32_88 v158
  v159.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_49 : BitVec 32 := 8#32
  let v113 : BitVec 32 := Scalar.addi v2 c8_i32_49
  let c32_i32_50 : BitVec 32 := 32#32
  let c0_i32_51 : BitVec 32 := 0#32
  let v114 : BitVec 1 := Scalar.cmpi .eq c32_i32_50 c0_i32_51
  let c1_i32_52 : BitVec 32 := 1#32
  let v115 : BitVec 32 := Scalar.select v114 c1_i32_52 c32_i32_50
  let v116 : BitVec 32 := Scalar.remsi v113 v115
  let c0_i32_54 : BitVec 32 := 0#32
  let v118 : BitVec 1 := Scalar.cmpi .slt v116 c0_i32_54
  let c0_i32_55 : BitVec 32 := 0#32
  let v119 : BitVec 1 := Scalar.cmpi .slt v115 c0_i32_55
  let v120 : BitVec 1 := Scalar.xori v118 v119
  let c0_i32_53 : BitVec 32 := 0#32
  let v117 : BitVec 1 := Scalar.cmpi .ne v116 c0_i32_53
  let v121 : BitVec 1 := Scalar.andi v120 v117
  let v122 : BitVec 32 := Scalar.addi v116 v115
  let v123 : BitVec 32 := Scalar.select v121 v122 v116
  let c1_i32_90 : BitVec 32 := 1#32
  let v160 : BitVec 32 := Scalar.muli v123 c1_i32_90
  let v161 : BitVec 32 := Scalar.addi c0_i32_91 v160
  v161.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v124 : BitVec 32 := Scalar.addi v2 c16_i32
  let c32_i32_56 : BitVec 32 := 32#32
  let c0_i32_57 : BitVec 32 := 0#32
  let v125 : BitVec 1 := Scalar.cmpi .eq c32_i32_56 c0_i32_57
  let c1_i32_58 : BitVec 32 := 1#32
  let v126 : BitVec 32 := Scalar.select v125 c1_i32_58 c32_i32_56
  let v127 : BitVec 32 := Scalar.remsi v124 v126
  let c0_i32_60 : BitVec 32 := 0#32
  let v129 : BitVec 1 := Scalar.cmpi .slt v127 c0_i32_60
  let c0_i32_61 : BitVec 32 := 0#32
  let v130 : BitVec 1 := Scalar.cmpi .slt v126 c0_i32_61
  let v131 : BitVec 1 := Scalar.xori v129 v130
  let c0_i32_59 : BitVec 32 := 0#32
  let v128 : BitVec 1 := Scalar.cmpi .ne v127 c0_i32_59
  let v132 : BitVec 1 := Scalar.andi v131 v128
  let v133 : BitVec 32 := Scalar.addi v127 v126
  let v134 : BitVec 32 := Scalar.select v132 v133 v127
  let c1_i32_93 : BitVec 32 := 1#32
  let v162 : BitVec 32 := Scalar.muli v134 c1_i32_93
  let v163 : BitVec 32 := Scalar.addi c0_i32_94 v162
  v163.toNat
def k0_dev10 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v135 : BitVec 32 := Scalar.addi v2 c24_i32
  let c32_i32_62 : BitVec 32 := 32#32
  let c0_i32_63 : BitVec 32 := 0#32
  let v136 : BitVec 1 := Scalar.cmpi .eq c32_i32_62 c0_i32_63
  let c1_i32_64 : BitVec 32 := 1#32
  let v137 : BitVec 32 := Scalar.select v136 c1_i32_64 c32_i32_62
  let v138 : BitVec 32 := Scalar.remsi v135 v137
  let c0_i32_66 : BitVec 32 := 0#32
  let v140 : BitVec 1 := Scalar.cmpi .slt v138 c0_i32_66
  let c0_i32_67 : BitVec 32 := 0#32
  let v141 : BitVec 1 := Scalar.cmpi .slt v137 c0_i32_67
  let v142 : BitVec 1 := Scalar.xori v140 v141
  let c0_i32_65 : BitVec 32 := 0#32
  let v139 : BitVec 1 := Scalar.cmpi .ne v138 c0_i32_65
  let v143 : BitVec 1 := Scalar.andi v142 v139
  let v144 : BitVec 32 := Scalar.addi v138 v137
  let v145 : BitVec 32 := Scalar.select v143 v144 v138
  let c1_i32_96 : BitVec 32 := 1#32
  let v164 : BitVec 32 := Scalar.muli v145 c1_i32_96
  let v165 : BitVec 32 := Scalar.addi c0_i32_97 v164
  v165.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v176 : BitVec 32 := Scalar.subi v2 v20
  let c1_i32_104 : BitVec 32 := 1#32
  let v177 : BitVec 32 := Scalar.addi v176 c1_i32_104
  let c8_i32_105 : BitVec 32 := 8#32
  let c0_i32_106 : BitVec 32 := 0#32
  let v178 : BitVec 1 := Scalar.cmpi .eq c8_i32_105 c0_i32_106
  let c1_i32_107 : BitVec 32 := 1#32
  let v179 : BitVec 32 := Scalar.select v178 c1_i32_107 c8_i32_105
  let v180 : BitVec 32 := Scalar.remsi v177 v179
  let c0_i32_109 : BitVec 32 := 0#32
  let v182 : BitVec 1 := Scalar.cmpi .slt v180 c0_i32_109
  let c0_i32_110 : BitVec 32 := 0#32
  let v183 : BitVec 1 := Scalar.cmpi .slt v179 c0_i32_110
  let v184 : BitVec 1 := Scalar.xori v182 v183
  let c0_i32_108 : BitVec 32 := 0#32
  let v181 : BitVec 1 := Scalar.cmpi .ne v180 c0_i32_108
  let v185 : BitVec 1 := Scalar.andi v184 v181
  let v186 : BitVec 32 := Scalar.addi v180 v179
  let v187 : BitVec 32 := Scalar.select v185 v186 v180
  let v188 : BitVec 32 := Scalar.addi v20 v187
  let c1_i32_115 : BitVec 32 := 1#32
  let v189 : BitVec 32 := Scalar.muli v188 c1_i32_115
  let v190 : BitVec 32 := Scalar.addi c0_i32_116 v189
  v190.toNat
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v199 : BitVec 32 := Scalar.subi v2 v20
  let c2_i32_121 : BitVec 32 := 2#32
  let v200 : BitVec 32 := Scalar.addi v199 c2_i32_121
  let c8_i32_122 : BitVec 32 := 8#32
  let c0_i32_123 : BitVec 32 := 0#32
  let v201 : BitVec 1 := Scalar.cmpi .eq c8_i32_122 c0_i32_123
  let c1_i32_124 : BitVec 32 := 1#32
  let v202 : BitVec 32 := Scalar.select v201 c1_i32_124 c8_i32_122
  let v203 : BitVec 32 := Scalar.remsi v200 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let v211 : BitVec 32 := Scalar.addi v20 v210
  let c1_i32_132 : BitVec 32 := 1#32
  let v212 : BitVec 32 := Scalar.muli v211 c1_i32_132
  let v213 : BitVec 32 := Scalar.addi c0_i32_133 v212
  v213.toNat
def k0_dev13 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v222 : BitVec 32 := Scalar.subi v2 v20
  let c3_i32_138 : BitVec 32 := 3#32
  let v223 : BitVec 32 := Scalar.addi v222 c3_i32_138
  let c8_i32_139 : BitVec 32 := 8#32
  let c0_i32_140 : BitVec 32 := 0#32
  let v224 : BitVec 1 := Scalar.cmpi .eq c8_i32_139 c0_i32_140
  let c1_i32_141 : BitVec 32 := 1#32
  let v225 : BitVec 32 := Scalar.select v224 c1_i32_141 c8_i32_139
  let v226 : BitVec 32 := Scalar.remsi v223 v225
  let c0_i32_143 : BitVec 32 := 0#32
  let v228 : BitVec 1 := Scalar.cmpi .slt v226 c0_i32_143
  let c0_i32_144 : BitVec 32 := 0#32
  let v229 : BitVec 1 := Scalar.cmpi .slt v225 c0_i32_144
  let v230 : BitVec 1 := Scalar.xori v228 v229
  let c0_i32_142 : BitVec 32 := 0#32
  let v227 : BitVec 1 := Scalar.cmpi .ne v226 c0_i32_142
  let v231 : BitVec 1 := Scalar.andi v230 v227
  let v232 : BitVec 32 := Scalar.addi v226 v225
  let v233 : BitVec 32 := Scalar.select v231 v232 v226
  let v234 : BitVec 32 := Scalar.addi v20 v233
  let c1_i32_149 : BitVec 32 := 1#32
  let v235 : BitVec 32 := Scalar.muli v234 c1_i32_149
  let v236 : BitVec 32 := Scalar.addi c0_i32_150 v235
  v236.toNat
def k0_dev14 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v245 : BitVec 32 := Scalar.subi v2 v20
  let c4_i32_155 : BitVec 32 := 4#32
  let v246 : BitVec 32 := Scalar.addi v245 c4_i32_155
  let c8_i32_156 : BitVec 32 := 8#32
  let c0_i32_157 : BitVec 32 := 0#32
  let v247 : BitVec 1 := Scalar.cmpi .eq c8_i32_156 c0_i32_157
  let c1_i32_158 : BitVec 32 := 1#32
  let v248 : BitVec 32 := Scalar.select v247 c1_i32_158 c8_i32_156
  let v249 : BitVec 32 := Scalar.remsi v246 v248
  let c0_i32_160 : BitVec 32 := 0#32
  let v251 : BitVec 1 := Scalar.cmpi .slt v249 c0_i32_160
  let c0_i32_161 : BitVec 32 := 0#32
  let v252 : BitVec 1 := Scalar.cmpi .slt v248 c0_i32_161
  let v253 : BitVec 1 := Scalar.xori v251 v252
  let c0_i32_159 : BitVec 32 := 0#32
  let v250 : BitVec 1 := Scalar.cmpi .ne v249 c0_i32_159
  let v254 : BitVec 1 := Scalar.andi v253 v250
  let v255 : BitVec 32 := Scalar.addi v249 v248
  let v256 : BitVec 32 := Scalar.select v254 v255 v249
  let v257 : BitVec 32 := Scalar.addi v20 v256
  let c1_i32_166 : BitVec 32 := 1#32
  let v258 : BitVec 32 := Scalar.muli v257 c1_i32_166
  let v259 : BitVec 32 := Scalar.addi c0_i32_167 v258
  v259.toNat
def k0_dev15 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v268 : BitVec 32 := Scalar.subi v2 v20
  let c5_i32_172 : BitVec 32 := 5#32
  let v269 : BitVec 32 := Scalar.addi v268 c5_i32_172
  let c8_i32_173 : BitVec 32 := 8#32
  let c0_i32_174 : BitVec 32 := 0#32
  let v270 : BitVec 1 := Scalar.cmpi .eq c8_i32_173 c0_i32_174
  let c1_i32_175 : BitVec 32 := 1#32
  let v271 : BitVec 32 := Scalar.select v270 c1_i32_175 c8_i32_173
  let v272 : BitVec 32 := Scalar.remsi v269 v271
  let c0_i32_177 : BitVec 32 := 0#32
  let v274 : BitVec 1 := Scalar.cmpi .slt v272 c0_i32_177
  let c0_i32_178 : BitVec 32 := 0#32
  let v275 : BitVec 1 := Scalar.cmpi .slt v271 c0_i32_178
  let v276 : BitVec 1 := Scalar.xori v274 v275
  let c0_i32_176 : BitVec 32 := 0#32
  let v273 : BitVec 1 := Scalar.cmpi .ne v272 c0_i32_176
  let v277 : BitVec 1 := Scalar.andi v276 v273
  let v278 : BitVec 32 := Scalar.addi v272 v271
  let v279 : BitVec 32 := Scalar.select v277 v278 v272
  let v280 : BitVec 32 := Scalar.addi v20 v279
  let c1_i32_183 : BitVec 32 := 1#32
  let v281 : BitVec 32 := Scalar.muli v280 c1_i32_183
  let v282 : BitVec 32 := Scalar.addi c0_i32_184 v281
  v282.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v291 : BitVec 32 := Scalar.subi v2 v20
  let c6_i32_189 : BitVec 32 := 6#32
  let v292 : BitVec 32 := Scalar.addi v291 c6_i32_189
  let c8_i32_190 : BitVec 32 := 8#32
  let c0_i32_191 : BitVec 32 := 0#32
  let v293 : BitVec 1 := Scalar.cmpi .eq c8_i32_190 c0_i32_191
  let c1_i32_192 : BitVec 32 := 1#32
  let v294 : BitVec 32 := Scalar.select v293 c1_i32_192 c8_i32_190
  let v295 : BitVec 32 := Scalar.remsi v292 v294
  let c0_i32_194 : BitVec 32 := 0#32
  let v297 : BitVec 1 := Scalar.cmpi .slt v295 c0_i32_194
  let c0_i32_195 : BitVec 32 := 0#32
  let v298 : BitVec 1 := Scalar.cmpi .slt v294 c0_i32_195
  let v299 : BitVec 1 := Scalar.xori v297 v298
  let c0_i32_193 : BitVec 32 := 0#32
  let v296 : BitVec 1 := Scalar.cmpi .ne v295 c0_i32_193
  let v300 : BitVec 1 := Scalar.andi v299 v296
  let v301 : BitVec 32 := Scalar.addi v295 v294
  let v302 : BitVec 32 := Scalar.select v300 v301 v295
  let v303 : BitVec 32 := Scalar.addi v20 v302
  let c1_i32_200 : BitVec 32 := 1#32
  let v304 : BitVec 32 := Scalar.muli v303 c1_i32_200
  let v305 : BitVec 32 := Scalar.addi c0_i32_201 v304
  v305.toNat
def k0_dev17 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v314 : BitVec 32 := Scalar.subi v2 v20
  let c7_i32_206 : BitVec 32 := 7#32
  let v315 : BitVec 32 := Scalar.addi v314 c7_i32_206
  let c8_i32_207 : BitVec 32 := 8#32
  let c0_i32_208 : BitVec 32 := 0#32
  let v316 : BitVec 1 := Scalar.cmpi .eq c8_i32_207 c0_i32_208
  let c1_i32_209 : BitVec 32 := 1#32
  let v317 : BitVec 32 := Scalar.select v316 c1_i32_209 c8_i32_207
  let v318 : BitVec 32 := Scalar.remsi v315 v317
  let c0_i32_211 : BitVec 32 := 0#32
  let v320 : BitVec 1 := Scalar.cmpi .slt v318 c0_i32_211
  let c0_i32_212 : BitVec 32 := 0#32
  let v321 : BitVec 1 := Scalar.cmpi .slt v317 c0_i32_212
  let v322 : BitVec 1 := Scalar.xori v320 v321
  let c0_i32_210 : BitVec 32 := 0#32
  let v319 : BitVec 1 := Scalar.cmpi .ne v318 c0_i32_210
  let v323 : BitVec 1 := Scalar.andi v322 v319
  let v324 : BitVec 32 := Scalar.addi v318 v317
  let v325 : BitVec 32 := Scalar.select v323 v324 v318
  let v326 : BitVec 32 := Scalar.addi v20 v325
  let c1_i32_217 : BitVec 32 := 1#32
  let v327 : BitVec 32 := Scalar.muli v326 c1_i32_217
  let v328 : BitVec 32 := Scalar.addi c0_i32_218 v327
  v328.toNat
def k0_dev18 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_310 : BitVec 32 := 8#32
  let v410 : BitVec 32 := Scalar.addi v2 c8_i32_310
  let c32_i32_311 : BitVec 32 := 32#32
  let c0_i32_312 : BitVec 32 := 0#32
  let v411 : BitVec 1 := Scalar.cmpi .eq c32_i32_311 c0_i32_312
  let c1_i32_313 : BitVec 32 := 1#32
  let v412 : BitVec 32 := Scalar.select v411 c1_i32_313 c32_i32_311
  let v413 : BitVec 32 := Scalar.remsi v410 v412
  let c0_i32_315 : BitVec 32 := 0#32
  let v415 : BitVec 1 := Scalar.cmpi .slt v413 c0_i32_315
  let c0_i32_316 : BitVec 32 := 0#32
  let v416 : BitVec 1 := Scalar.cmpi .slt v412 c0_i32_316
  let v417 : BitVec 1 := Scalar.xori v415 v416
  let c0_i32_314 : BitVec 32 := 0#32
  let v414 : BitVec 1 := Scalar.cmpi .ne v413 c0_i32_314
  let v418 : BitVec 1 := Scalar.andi v417 v414
  let v419 : BitVec 32 := Scalar.addi v413 v412
  let v420 : BitVec 32 := Scalar.select v418 v419 v413
  let c1_i32_321 : BitVec 32 := 1#32
  let v421 : BitVec 32 := Scalar.muli v420 c1_i32_321
  let v422 : BitVec 32 := Scalar.addi c0_i32_322 v421
  v422.toNat
def k0_dev19 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_327 : BitVec 32 := 16#32
  let v431 : BitVec 32 := Scalar.addi v2 c16_i32_327
  let c32_i32_328 : BitVec 32 := 32#32
  let c0_i32_329 : BitVec 32 := 0#32
  let v432 : BitVec 1 := Scalar.cmpi .eq c32_i32_328 c0_i32_329
  let c1_i32_330 : BitVec 32 := 1#32
  let v433 : BitVec 32 := Scalar.select v432 c1_i32_330 c32_i32_328
  let v434 : BitVec 32 := Scalar.remsi v431 v433
  let c0_i32_332 : BitVec 32 := 0#32
  let v436 : BitVec 1 := Scalar.cmpi .slt v434 c0_i32_332
  let c0_i32_333 : BitVec 32 := 0#32
  let v437 : BitVec 1 := Scalar.cmpi .slt v433 c0_i32_333
  let v438 : BitVec 1 := Scalar.xori v436 v437
  let c0_i32_331 : BitVec 32 := 0#32
  let v435 : BitVec 1 := Scalar.cmpi .ne v434 c0_i32_331
  let v439 : BitVec 1 := Scalar.andi v438 v435
  let v440 : BitVec 32 := Scalar.addi v434 v433
  let v441 : BitVec 32 := Scalar.select v439 v440 v434
  let c1_i32_338 : BitVec 32 := 1#32
  let v442 : BitVec 32 := Scalar.muli v441 c1_i32_338
  let v443 : BitVec 32 := Scalar.addi c0_i32_339 v442
  v443.toNat
def k0_dev20 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_344 : BitVec 32 := 24#32
  let v452 : BitVec 32 := Scalar.addi v2 c24_i32_344
  let c32_i32_345 : BitVec 32 := 32#32
  let c0_i32_346 : BitVec 32 := 0#32
  let v453 : BitVec 1 := Scalar.cmpi .eq c32_i32_345 c0_i32_346
  let c1_i32_347 : BitVec 32 := 1#32
  let v454 : BitVec 32 := Scalar.select v453 c1_i32_347 c32_i32_345
  let v455 : BitVec 32 := Scalar.remsi v452 v454
  let c0_i32_349 : BitVec 32 := 0#32
  let v457 : BitVec 1 := Scalar.cmpi .slt v455 c0_i32_349
  let c0_i32_350 : BitVec 32 := 0#32
  let v458 : BitVec 1 := Scalar.cmpi .slt v454 c0_i32_350
  let v459 : BitVec 1 := Scalar.xori v457 v458
  let c0_i32_348 : BitVec 32 := 0#32
  let v456 : BitVec 1 := Scalar.cmpi .ne v455 c0_i32_348
  let v460 : BitVec 1 := Scalar.andi v459 v456
  let v461 : BitVec 32 := Scalar.addi v455 v454
  let v462 : BitVec 32 := Scalar.select v460 v461 v455
  let c1_i32_355 : BitVec 32 := 1#32
  let v463 : BitVec 32 := Scalar.muli v462 c1_i32_355
  let v464 : BitVec 32 := Scalar.addi c0_i32_356 v463
  v464.toNat
abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x8192 : Shape := ⟨3, ![4, 1024, 8192]⟩
abbrev S4x128 : Shape := ⟨2, ![4, 128]⟩
abbrev S128x8192 : Shape := ⟨2, ![128, 8192]⟩
abbrev S_ : Shape := ⟨0, ![]⟩
abbrev S4x1024 : Shape := ⟨2, ![4, 1024]⟩
abbrev S4x1024x1 : Shape := ⟨3, ![4, 1024, 1]⟩
abbrev S4x8192 : Shape := ⟨2, ![4, 8192]⟩
abbrev S4x1x8192 : Shape := ⟨3, ![4, 1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S4x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S_, .f32⟩
  | .hbm, ⟨8, _⟩ => ⟨S4x1024x1, .f32⟩
  | .hbm, ⟨9, _⟩ => ⟨S4x1024x1, .f32⟩
  | .hbm, ⟨10, _⟩ => ⟨S_, .i32⟩
  | .hbm, ⟨11, _⟩ => ⟨S_, .f32⟩
  | .hbm, ⟨12, _⟩ => ⟨S4x1024, .f32⟩
  | .hbm, ⟨13, _⟩ => ⟨S4x1024x1, .f32⟩
  | .hbm, ⟨14, _⟩ => ⟨S_, .f32⟩
  | .hbm, ⟨15, _⟩ => ⟨S4x1024x1, .f32⟩
  | .hbm, ⟨16, _⟩ => ⟨S4x1024x1, .f32⟩
  | .hbm, ⟨17, _⟩ => ⟨S4x1024x8192, .f32⟩
  | .hbm, ⟨18, _⟩ => ⟨S4x1024x8192, .f32⟩
  | .hbm, ⟨19, _⟩ => ⟨S4x1024x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x1024, .f32⟩
  | .hbm, ⟨25, _⟩ => ⟨S4x1024x1, .f32⟩
  | .hbm, ⟨26, _⟩ => ⟨S4x1024x1, .f32⟩
  | .hbm, ⟨27, _⟩ => ⟨S4x1024x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x1024x1, .f32⟩
  | .hbm, ⟨33, _⟩ => ⟨S4x1024x1, .f32⟩
  | .hbm, ⟨34, _⟩ => ⟨S4x1024x8192, .f32⟩
  | .hbm, ⟨35, _⟩ => ⟨S4x1024x8192, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S4x1024x8192, .f32⟩
  | .hbm, ⟨41, _⟩ => ⟨S4x1024x8192, .f32⟩
  | .hbm, ⟨42, _⟩ => ⟨S4x8192, .f32⟩
  | .hbm, ⟨43, _⟩ => ⟨S4x8192, .f32⟩
  | .hbm, ⟨44, _⟩ => ⟨S4x1x8192, .f32⟩
  | .hbm, ⟨45, _⟩ => ⟨S_, .f32⟩
  | .hbm, ⟨46, _⟩ => ⟨S4x1x8192, .f32⟩
  | .hbm, ⟨47, _⟩ => ⟨S4x1x8192, .f32⟩
  | .hbm, ⟨48, _⟩ => ⟨S4x1024x8192, .f32⟩
  | .hbm, ⟨49, _⟩ => ⟨S4x1024x8192, .f32⟩
  | .hbm, ⟨50, _⟩ => ⟨S4x1x8192, .f32⟩
  | .hbm, ⟨51, _⟩ => ⟨S4x1024x8192, .f32⟩
  | .hbm, ⟨52, _⟩ => ⟨S4x1024x8192, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Peers.lean ====
/-
# The exchange's peers, slots and semaphore cells

Each device sends ten copies. Copies 0..6 carry its row sums to the seven other devices of its plane of eight;
copies 7..9 carry its plane's sums to the devices at the same place of the three other planes. This module names,
for a copy `k`, the device it goes to (`pr k`), the slot it is read from and the slot it lands in, and the two
semaphores it credits; and it names every semaphore cell the exchange uses.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AdaNorm

open Cert.KernelIdeal Cert.KernelIdeal.Gen
open Idealize.ShloMosaic
open Idealize.ShloMosaic.TcCoe

/-! ## Peers -/

set_option backward.proofsInPublic true in
/-- The device copy `k` of device `c` goes to: the plane peer `k + 1` places on, or the `k - 6`th plane on. -/
def pr (k : Fin 10) (c : Dev nD) : Dev nD :=
  if k.val < 7 then ⟨(c.val / 8 * 8 + (c.val % 8 + k.val + 1) % 8) % 32, Nat.mod_lt _ (by decide)⟩
  else ⟨(c.val + 8 * (k.val - 6)) % 32, Nat.mod_lt _ (by decide)⟩

set_option backward.proofsInPublic true in
/-- The copy that goes the opposite way: `pr (opp k)` undoes `pr k`. -/
def opp (k : Fin 10) : Fin 10 :=
  if k.val < 7 then ⟨(6 - k.val) % 10, Nat.mod_lt _ (by decide)⟩ else ⟨(16 - k.val) % 10, Nat.mod_lt _ (by decide)⟩

theorem opp_opp (k : Fin 10) : opp (opp k) = k := by revert k; decide
set_option maxRecDepth 8000 in
theorem pr_opp (k : Fin 10) (c : Dev nD) : pr (opp k) (pr k c) = c := by revert k c; decide
theorem pr_opp' (k : Fin 10) (c : Dev nD) : pr k (pr (opp k) c) = c := by
  have h := pr_opp (opp k) c; rwa [opp_opp] at h

/-- Copy `k` as a permutation of the devices. -/
def prE (k : Fin 10) : Dev nD ≃ Dev nD := ⟨pr k, pr (opp k), pr_opp k, pr_opp' k⟩
/-- The reversal as a permutation of the copies. -/
def oppE : Fin 10 ≃ Fin 10 := ⟨opp, opp, opp_opp, opp_opp⟩

/-! The kernel's device chains: signal `k` and copy `k` both name `pr k`. -/

theorem dev1_eq (c : Dev nD) : (⟨k0_dev1 c, k0_dev1_lt c⟩ : Dev nD) = pr 0 c := by revert c; decide
theorem dev2_eq (c : Dev nD) : (⟨k0_dev2 c, k0_dev2_lt c⟩ : Dev nD) = pr 1 c := by revert c; decide
theorem dev3_eq (c : Dev nD) : (⟨k0_dev3 c, k0_dev3_lt c⟩ : Dev nD) = pr 2 c := by revert c; decide
theorem dev4_eq (c : Dev nD) : (⟨k0_dev4 c, k0_dev4_lt c⟩ : Dev nD) = pr 3 c := by revert c; decide
theorem dev5_eq (c : Dev nD) : (⟨k0_dev5 c, k0_dev5_lt c⟩ : Dev nD) = pr 4 c := by revert c; decide
theorem dev6_eq (c : Dev nD) : (⟨k0_dev6 c, k0_dev6_lt c⟩ : Dev nD) = pr 5 c := by revert c; decide
theorem dev7_eq (c : Dev nD) : (⟨k0_dev7 c, k0_dev7_lt c⟩ : Dev nD) = pr 6 c := by revert c; decide
theorem dev8_eq (c : Dev nD) : (⟨k0_dev8 c, k0_dev8_lt c⟩ : Dev nD) = pr 7 c := by revert c; decide
theorem dev9_eq (c : Dev nD) : (⟨k0_dev9 c, k0_dev9_lt c⟩ : Dev nD) = pr 8 c := by revert c; decide
theorem dev10_eq (c : Dev nD) : (⟨k0_dev10 c, k0_dev10_lt c⟩ : Dev nD) = pr 9 c := by revert c; decide
theorem dev11_eq (c : Dev nD) : (⟨k0_dev11 c, k0_dev11_lt c⟩ : Dev nD) = pr 0 c := by revert c; decide
theorem dev12_eq (c : Dev nD) : (⟨k0_dev12 c, k0_dev12_lt c⟩ : Dev nD) = pr 1 c := by revert c; decide
theorem dev13_eq (c : Dev nD) : (⟨k0_dev13 c, k0_dev13_lt c⟩ : Dev nD) = pr 2 c := by revert c; decide
theorem dev14_eq (c : Dev nD) : (⟨k0_dev14 c, k0_dev14_lt c⟩ : Dev nD) = pr 3 c := by revert c; decide
theorem dev15_eq (c : Dev nD) : (⟨k0_dev15 c, k0_dev15_lt c⟩ : Dev nD) = pr 4 c := by revert c; decide
theorem dev16_eq (c : Dev nD) : (⟨k0_dev16 c, k0_dev16_lt c⟩ : Dev nD) = pr 5 c := by revert c; decide
theorem dev17_eq (c : Dev nD) : (⟨k0_dev17 c, k0_dev17_lt c⟩ : Dev nD) = pr 6 c := by revert c; decide
theorem dev18_eq (c : Dev nD) : (⟨k0_dev18 c, k0_dev18_lt c⟩ : Dev nD) = pr 7 c := by revert c; decide
theorem dev19_eq (c : Dev nD) : (⟨k0_dev19 c, k0_dev19_lt c⟩ : Dev nD) = pr 8 c := by revert c; decide
theorem dev20_eq (c : Dev nD) : (⟨k0_dev20 c, k0_dev20_lt c⟩ : Dev nD) = pr 9 c := by revert c; decide

/-! ## Slots -/

/-- `n` pages of `8 × 1024`, one page, and the slot `j` of an array of pages as the copies name it. -/
abbrev Pages (n : ℕ) : Shape := ⟨3, ![n, 8, 1024]⟩
theorem inbPage (n : ℕ) (j : Fin n) : ∀ a, (![j.val, 0, 0] : Fin 3 → ℕ) a + S1x8x1024.size a ≤ (Pages n).size a := fun a => by
  match a with
  | ⟨0, _⟩ => exact j.isLt
  | ⟨1, _⟩ => exact Nat.le_refl _
  | ⟨2, _⟩ => exact Nat.le_refl _
abbrev page {n : ℕ} (j : Fin n) : Rect (Pages n) := Rect.unit (s := Pages n) ![j.val, 0, 0] S1x8x1024.size (inbPage n j)
abbrev slotOf {n : ℕ} (M : Memref sig .tc .vmem (Pages n) .bf16) (j : Fin n) : Memref sig .tc .vmem S8x1024 .bf16 :=
  (M.slice (page j) fun _ => rfl).squeeze S8x1024 squeezes_S1x8x1024_S8x1024

/-- The plane exchange's scratch (eight slots) and the cross-plane exchange's (four). -/
abbrev s1M : Memref sig .tc .vmem (Pages 8) .bf16 := Memref.whole cc0_scratch0
abbrev s2M : Memref sig .tc .vmem (Pages 4) .bf16 := Memref.whole cc0_scratch1
abbrev slot1 (j : Fin 8) : Memref sig .tc .vmem S8x1024 .bf16 := slotOf s1M j
abbrev slot2 (j : Fin 4) : Memref sig .tc .vmem S8x1024 .bf16 := slotOf s2M j

/-- The slot copy `k` is read from. -/
def srcM (k : Fin 10) : Memref sig .tc .vmem S8x1024 .bf16 := if k.val < 7 then slot1 0 else slot2 0
/-- The slot copy `k` lands in. -/
def dstM : Fin 10 → Memref sig .tc .vmem S8x1024 .bf16
  | 0 => slot1 1 | 1 => slot1 2 | 2 => slot1 3 | 3 => slot1 4 | 4 => slot1 5 | 5 => slot1 6 | 6 => slot1 7
  | 7 => slot2 1 | 8 => slot2 2 | 9 => slot2 3

/-! ## Semaphore cells -/

theorem inbS8 (j : Fin 8) : ∀ a, (![j.val] : Fin 1 → ℕ) a + S1.size a ≤ S8.size a := by revert j; decide
theorem inbS4 (j : Fin 4) : ∀ a, (![j.val] : Fin 1 → ℕ) a + S1.size a ≤ S4.size a := by revert j; decide
/-- Entry `j` of an array of eight DMA semaphores; of four. -/
abbrev sem8 (a : DmaSems sig S8) (j : Fin 8) : DmaSem sig :=
  ((a.slice (Rect.unit (s := S8) ![j.val] S1.size (inbS8 j))).squeeze S_ squeezes_S1_S_).sem
abbrev sem4 (a : DmaSems sig S4) (j : Fin 4) : DmaSem sig :=
  ((a.slice (Rect.unit (s := S4) ![j.val] S1.size (inbS4 j))).squeeze S_ squeezes_S1_S_).sem

/-- The semaphore copy `k` credits on its sender. -/
def sndS : Fin 10 → DmaSem sig
  | 0 => sem8 cc0_scratch2 1 | 1 => sem8 cc0_scratch2 2 | 2 => sem8 cc0_scratch2 3 | 3 => sem8 cc0_scratch2 4
  | 4 => sem8 cc0_scratch2 5 | 5 => sem8 cc0_scratch2 6 | 6 => sem8 cc0_scratch2 7
  | 7 => sem4 cc0_scratch4 1 | 8 => sem4 cc0_scratch4 2 | 9 => sem4 cc0_scratch4 3
/-- The semaphore copy `k` credits on its receiver. -/
def rcvS : Fin 10 → DmaSem sig
  | 0 => sem8 cc0_scratch3 1 | 1 => sem8 cc0_scratch3 2 | 2 => sem8 cc0_scratch3 3 | 3 => sem8 cc0_scratch3 4
  | 4 => sem8 cc0_scratch3 5 | 5 => sem8 cc0_scratch3 6 | 6 => sem8 cc0_scratch3 7
  | 7 => sem4 cc0_scratch5 1 | 8 => sem4 cc0_scratch5 2 | 9 => sem4 cc0_scratch5 3
/-- The four entries of the semaphore arrays that no copy uses. -/
def idleS : Fin 4 → DmaSem sig
  | 0 => sem8 cc0_scratch2 0 | 1 => sem8 cc0_scratch3 0 | 2 => sem4 cc0_scratch4 0 | 3 => sem4 cc0_scratch5 0
/-- The entry barrier's semaphore, the runtime's. -/
abbrev barS : Sem sig := (SemArray.scalar (sig.barrier 0 rfl) : Sems sig S_).sem

/-- A device's cells: its barrier, and for each copy its send and its receive cell. -/
inductive Cl | bar | snd (k : Fin 10) | rcv (k : Fin 10)
  deriving DecidableEq

/-- The cells, as one barrier, ten sends and ten receives. -/
def clE : Unit ⊕ (Fin 10 ⊕ Fin 10) ≃ Cl where
  toFun | .inl _ => .bar | .inr (.inl k) => .snd k | .inr (.inr k) => .rcv k
  invFun | .bar => .inl () | .snd k => .inr (.inl k) | .rcv k => .inr (.inr k)
  left_inv x := by rcases x with _ | _ | _ <;> rfl
  right_inv x := by cases x <;> rfl

instance : Fintype Cl := Fintype.ofEquiv _ clE

/-- The semaphore of a cell. -/
def csem : Cl → SemLoc sig | .bar => .reg barS | .snd k => .dma (sndS k) | .rcv k => .dma (rcvS k)

theorem sndS_inj : ∀ k k' : Fin 10, sndS k = sndS k' → k = k' := by decide
theorem rcvS_inj : ∀ k k' : Fin 10, rcvS k = rcvS k' → k = k' := by decide
theorem sndS_ne_rcvS : ∀ k k' : Fin 10, sndS k ≠ rcvS k' := by decide

theorem csem_injective : Function.Injective csem := by
  intro x y h
  cases x <;> cases y <;> first
    | rfl
    | (cases h; done)
    | skip
  · rw [sndS_inj _ _ (SemLoc.dma.inj h)]
  · exact absurd (SemLoc.dma.inj h) (sndS_ne_rcvS _ _)
  · exact absurd (SemLoc.dma.inj h).symm (sndS_ne_rcvS _ _)
  · rw [rcvS_inj _ _ (SemLoc.dma.inj h)]

/-- Cell `x` of device `c`. -/
abbrev cell (c : Dev nD) (x : Cl) : GSem nD τ sig := ((c : Thread nD τ), csem x)

/-- The cell a semaphore is the semaphore of, if it is one's. -/
def clOf (s : SemLoc sig) : Option Cl := Function.partialInv csem s
theorem clOf_csem (x : Cl) : clOf (csem x) = some x := Function.partialInv_left csem_injective x

/-- A copy's credit, the same for the ten. -/
abbrev N : ℕ := (slot1 1).view.dmaCredit
theorem N_pos : 0 < N := View.dmaCredit_pos _ (by decide)
theorem amount_dst (k : Fin 10) : (dstM k).view.dmaCredit = N := by fin_cases k <;> rfl

end Cert.AdaNorm
-- ==== Proof.Slots.lean ====
/-
# Slots of a scratch of pages

Owning an array of `8 × 1024` pages is owning its slots; owning a slot at a share is owning it at that share's
read tokens. These are what the exchange needs to give single slots away, to lend a slot to several copies at once,
and to read the whole array while a slot is lent.
-/
module

public import proofs.«01_k».proof.Proof.Peers
public import Idealize.ShloMosaic.Lib.Transfers
public import Idealize.ShloMosaic.Lib.ValueLayout
public import Idealize.ShloMosaic.Lib.ViewIndex
public import Idealize.ShloMosaic.Lib.Tactic

@[expose] public section

noncomputable section

namespace Cert.AdaNorm

open Cert.KernelIdeal Cert.KernelIdeal.Gen
open Idealize.ShloMosaic
open Idealize.ShloMosaic.TcCoe
open Idealize.ShloMosaic.Transfers (shareDrop shareTok pointsTo_toks_split pointsTo_toks_join)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {Val : EltTy → Type} [∀ e, Nonempty (Val e)] {U : Type} [URA U]

local notation "𝕄" => MT nD τ sig Unit Val ℕ U ℕ

/-! ## Which elements a slot has -/

/-- Element `y` of page `j`. -/
def pg {n : ℕ} (j : Fin n) (y : S8x1024.Idx) : (Pages n).Idx := ix3 j (y 0) (y 1)

section Elements
variable {n : ℕ} (M : Memref sig .tc .vmem (Pages n) .bf16) (j : Fin n)

/-- Element `y` of slot `j` is element `(j, y)` of the array. -/
theorem slot_emb (y : S8x1024.Idx) : (slotOf M j).view.emb y = M.view.emb (pg j y) := by
  have h1 : (slotOf M j).view.emb y = M.view.emb ((page j).emb (Shape.reshapeEquiv squeezes_S1x8x1024_S8x1024.numel_eq y)) := rfl
  rw [h1, Shape.reshapeEquiv_cons_one]
  congr 1
  funext a
  apply Fin.ext
  rw [Rect.emb_apply]
  match a with
  | ⟨0, _⟩ => show j.val + 1 * 0 = j.val; omega
  | ⟨1, _⟩ => show 0 + 1 * (y 0).val = (y 0).val; omega
  | ⟨2, _⟩ => show 0 + 1 * (y 1).val = (y 1).val; omega

/-- Reading slot `j` is reading the array at page `j`. -/
theorem slot_read (f : M.view.ty.Contents Val) (y : S8x1024.Idx) :
    (slotOf M j).view.read Val f y = M.view.read Val f (pg j y) := by
  rw [View.read_apply, View.read_apply, slot_emb]

theorem ix3_eta (i : (Pages n).Idx) : ix3 (i 0) (i 1) (i 2) = i :=
  funext fun a => by match a with | ⟨0, _⟩ => rfl | ⟨1, _⟩ => rfl | ⟨2, _⟩ => rfl

theorem slots_disjoint (j j' : Fin n) (h : j ≠ j') : Disjoint (slotOf M j).view.set (slotOf M j').view.set := by
  rw [Finset.disjoint_left]
  intro i hi hi'
  obtain ⟨y, -, rfl⟩ := Finset.mem_map.mp hi
  obtain ⟨y', -, e⟩ := Finset.mem_map.mp hi'
  rw [slot_emb, slot_emb] at e
  exact h (congrFun (M.view.emb.injective e) 0).symm

theorem slots_cover : (Finset.univ.biUnion fun j => (slotOf M j).view.set) = M.view.set := by
  ext i
  rw [Finset.mem_biUnion]
  constructor
  · rintro ⟨j, -, h⟩
    obtain ⟨y, -, rfl⟩ := Finset.mem_map.mp h
    rw [slot_emb]; exact M.view.emb_mem_set _
  · intro h
    obtain ⟨y, -, rfl⟩ := Finset.mem_map.mp h
    exact ⟨(show Fin n from y 0), Finset.mem_univ _, Finset.mem_map.mpr ⟨ix2 (y 1) (y 2), Finset.mem_univ _, by rw [slot_emb]; exact congrArg _ (ix3_eta y)⟩⟩

/-- The array whose page `j` is `X j`. -/
def stack (X : Fin n → S8x1024.Idx → Val .bf16) : (Pages n).Idx → Val .bf16 := fun i => X (i 0) (ix2 (i 1) (i 2))

theorem stack_page (X : Fin n → S8x1024.Idx → Val .bf16) (y : S8x1024.Idx) : stack X (pg j y) = X j y := by
  show X j (ix2 (y 0) (y 1)) = X j y
  exact congrArg _ (funext fun a => by match a with | ⟨0, _⟩ => rfl | ⟨1, _⟩ => rfl)

end Elements

/-! ## Owning a view's elements at what it reads -/

section Own
variable {sp : Space} {sh : Shape} {e : EltTy} (c : Dev nD) (m : Memref sig .tc sp sh e)

theorem owns_open (q : PosShare TreeShare) {X : sh.Idx → Val e} :
    (owns (Ix := Unit) (Name := ℕ) (U := U) (Lvl := ℕ) (c : Thread nD τ) m q X : sProp 𝕄)
      ⊢ iprop(∃ f, ⌜m.view.read Val f = X⌝ ∗ (m.view.loc (c : Thread nD τ) ↦[m.view.set]{q} f)) := by
  unfold owns; exact .rfl

theorem owns_to (q : PosShare TreeShare) {X : sh.Idx → Val e} {g : Buf Val (m.view.loc (c : Thread nD τ))} (h : m.view.read Val g = X) :
    (owns (Ix := Unit) (Name := ℕ) (U := U) (Lvl := ℕ) (c : Thread nD τ) m q X : sProp 𝕄)
      ⊢ (m.view.loc (c : Thread nD τ) ↦[m.view.set]{q} g) := by
  refine (owns_open c m q).trans ?_
  iintro ⟨%f, %hf, H⟩
  rw [show (m.view.loc (c : Thread nD τ) ↦[m.view.set]{q} g : sProp 𝕄) = (m.view.loc (c : Thread nD τ) ↦[m.view.set]{q} f) from
    pointsTo_congr fun i hi => by
      obtain ⟨y, -, rfl⟩ := Finset.mem_map.mp hi
      exact View.eq_of_read_eq (by rw [h, hf])]
  iexact H

theorem owns_of (q : PosShare TreeShare) {X : sh.Idx → Val e} {g : Buf Val (m.view.loc (c : Thread nD τ))} (h : m.view.read Val g = X) :
    (m.view.loc (c : Thread nD τ) ↦[m.view.set]{q} g)
      ⊢ (owns (Ix := Unit) (Name := ℕ) (U := U) (Lvl := ℕ) (c : Thread nD τ) m q X : sProp 𝕄) := by
  unfold owns
  iintro H
  iexists g
  isplitr
  · ipureintro; exact h
  · iexact H

/-- `owns` is the points-to at any contents that read so. -/
theorem owns_eq (q : PosShare TreeShare) {X : sh.Idx → Val e} {g : Buf Val (m.view.loc (c : Thread nD τ))} (h : m.view.read Val g = X) :
    (owns (Ix := Unit) (Name := ℕ) (U := U) (Lvl := ℕ) (c : Thread nD τ) m q X : sProp 𝕄)
      = (m.view.loc (c : Thread nD τ) ↦[m.view.set]{q} g) :=
  BI.equiv_iff.mp ⟨owns_to c m q h, owns_of c m q h⟩

/-- A view owned at a share is owned at what remains of the share after `n` read tokens and at the tokens; -/
theorem owns_toks_split (q : PosShare TreeShare) (n : ℕ) (X : sh.Idx → Val e) :
    (owns (Ix := Unit) (Name := ℕ) (U := U) (Lvl := ℕ) (c : Thread nD τ) m q X : sProp 𝕄)
      ⊢ iprop(owns (c : Thread nD τ) m (shareDrop q n) X ∗ bigSep Finset.univ fun i : Fin n => owns (c : Thread nD τ) m (shareTok q n i) X) := by
  refine (owns_open c m q).trans ?_
  iintro ⟨%f, %hf, H⟩
  rw [owns_eq c m (shareDrop q n) hf, show (fun i : Fin n => (owns (c : Thread nD τ) m (shareTok q n i) X : sProp 𝕄)) = fun i => (m.view.loc (c : Thread nD τ) ↦[m.view.set]{shareTok q n i} f)
    from funext fun i => owns_eq c m _ hf]
  iapply (pointsTo_toks_split q n)
  iexact H

/-- and back. -/
theorem owns_toks_join (q : PosShare TreeShare) (n : ℕ) (X : sh.Idx → Val e) :
    iprop(owns (c : Thread nD τ) m (shareDrop q n) X ∗ bigSep Finset.univ fun i : Fin n => owns (c : Thread nD τ) m (shareTok q n i) X)
      ⊢ (owns (Ix := Unit) (Name := ℕ) (U := U) (Lvl := ℕ) (c : Thread nD τ) m q X : sProp 𝕄) := by
  refine (sep_mono_left (owns_open c m (shareDrop q n))).trans ?_
  iintro ⟨⟨%f, %hf, H⟩, Ht⟩
  rw [owns_eq c m q hf, show (fun i : Fin n => (owns (c : Thread nD τ) m (shareTok q n i) X : sProp 𝕄)) = fun i => (m.view.loc (c : Thread nD τ) ↦[m.view.set]{shareTok q n i} f)
    from funext fun i => owns_eq c m _ hf]
  iapply (pointsTo_toks_join q n)
  isplitl [H] <;> iassumption

end Own

/-! ## The whole array and its slots -/

section Whole
variable (c : Dev nD) {n : ℕ}

/-- An array at any contents is its slots, each at some contents. -/
theorem slots_split (M : Memref sig .tc .vmem (Pages n) .bf16) (q : PosShare TreeShare) (f : Buf Val (M.view.loc (c : Thread nD τ))) :
    (M.view.loc (c : Thread nD τ) ↦[M.view.set]{q} f : sProp 𝕄)
      = bigSep Finset.univ fun j : Fin n => ((slotOf M j).view.loc (c : Thread nD τ) ↦[(slotOf M j).view.set]{q} f) := by
  rw [← slots_cover M]
  exact pointsTo_biUnion (ℓ := M.view.loc (c : Thread nD τ)) (q := q) (f := f) Finset.univ (fun j => (slotOf M j).view.set) fun j _ j' _ h => slots_disjoint M j j' h

/-- An array whose pages are `X` is its slots, slot `j` reading `X j`. -/
theorem owns_stack (M : Memref sig .tc .vmem (Pages n) .bf16) (q : PosShare TreeShare) (X : Fin n → S8x1024.Idx → Val .bf16) :
    (owns (Ix := Unit) (Name := ℕ) (U := U) (Lvl := ℕ) (c : Thread nD τ) M q (stack X) : sProp 𝕄)
      ⊢ bigSep Finset.univ fun j : Fin n => owns (c : Thread nD τ) (slotOf M j) q (X j) := by
  have h (f : Buf Val (M.view.loc (c : Thread nD τ))) (hf : M.view.read Val f = stack X) :
      (M.view.loc (c : Thread nD τ) ↦[M.view.set]{q} f : sProp 𝕄) ⊢ bigSep Finset.univ fun j : Fin n => owns (c : Thread nD τ) (slotOf M j) q (X j) := by
    rw [slots_split]
    exact bigSep_mono fun j _ => owns_of c (slotOf M j) q (funext fun y => by rw [slot_read, hf, stack_page])
  refine (owns_open c M q).trans ?_
  iintro ⟨%f, %hf, H⟩
  iapply (h f hf)
  iexact H

/-- Slots put together: some contents of the array agree with each slot's. -/
theorem slots_join (M : Memref sig .tc .vmem (Pages (n + 1)) .bf16) (q : PosShare TreeShare) (X : Fin (n + 1) → S8x1024.Idx → Val .bf16) :
    (bigSep Finset.univ fun j : Fin (n + 1) => owns (c : Thread nD τ) (slotOf M j) q (X j))
      ⊢ (owns (Ix := Unit) (Name := ℕ) (U := U) (Lvl := ℕ) (c : Thread nD τ) M q (stack X) : sProp 𝕄) := by
  refine (bigSep_exists_pi Finset.univ (fun (j : Fin (n + 1)) (f : Buf Val (M.view.loc (c : Thread nD τ))) =>
    iprop(⌜(slotOf M j).view.read Val f = X j⌝ ∗ ((slotOf M j).view.loc (c : Thread nD τ) ↦[(slotOf M j).view.set]{q} f)))).trans ?_
  iintro ⟨%fs, H⟩
  ihave H := (bigSep_pure_sep Finset.univ (fun j : Fin (n + 1) => (slotOf M j).view.read Val (fs j) = X j)
    (fun j => ((slotOf M j).view.loc (c : Thread nD τ) ↦[(slotOf M j).view.set]{q} fs j))) $$ H
  icases H with ⟨%hX, H⟩
  ihave H := (pointsTo_biUnion_join Finset.univ (fun j => (slotOf M j).view.set) fs (fs 0) fun j _ j' _ h => slots_disjoint M j j' h) $$ H
  icases H with ⟨%g, %hg, H⟩
  rw [slots_cover M]
  have hr : M.view.read Val g = stack X := funext fun i => by
    obtain ⟨j, y, rfl⟩ : ∃ (j : Fin (n + 1)) (y : S8x1024.Idx), pg j y = i := ⟨i 0, ix2 (i 1) (i 2), ix3_eta i⟩
    have h2 : (slotOf M j).view.read Val g y = (slotOf M j).view.read Val (fs j) y := by
      rw [View.read_apply, View.read_apply, hg j (Finset.mem_univ _) _ ((slotOf M j).view.emb_mem_set _)]
    rw [hX j (Finset.mem_univ _), slot_read] at h2
    rw [h2, stack_page]
  rw [owns_eq c M q hr]
  iexact H

/-- A product over `n + 1` indices is the first factor and the product over the rest. -/
theorem bigSep_fin_succ (Φ : Fin (n + 1) → sProp 𝕄) :
    bigSep Finset.univ Φ = iprop(Φ 0 ∗ bigSep Finset.univ fun j : Fin n => Φ j.succ) := by
  rw [Fin.univ_succ, Finset.cons_eq_insert, bigSep_insert (by simp), BI.bigSep_map]
  rfl

/-- The slots from the second on, owned at share `q`. -/
def tail (M : Memref sig .tc .vmem (Pages (n + 1)) .bf16) (q : PosShare TreeShare) (X : Fin (n + 1) → S8x1024.Idx → Val .bf16) : sProp 𝕄 :=
  bigSep Finset.univ fun j : Fin n => owns (c : Thread nD τ) (slotOf M j.succ) q (X j.succ)

/-- Their read tokens. -/
def tailToks (M : Memref sig .tc .vmem (Pages (n + 1)) .bf16) (q : PosShare TreeShare) (k : ℕ) (X : Fin (n + 1) → S8x1024.Idx → Val .bf16) : sProp 𝕄 :=
  bigSep Finset.univ fun j : Fin n => bigSep Finset.univ fun i : Fin k => owns (c : Thread nD τ) (slotOf M j.succ) (shareTok q k i) (X j.succ)

theorem tail_split (M : Memref sig .tc .vmem (Pages (n + 1)) .bf16) (q : PosShare TreeShare) (k : ℕ) (X : Fin (n + 1) → S8x1024.Idx → Val .bf16) :
    tail (U := U) c M q X ⊢ iprop(tail c M (shareDrop q k) X ∗ tailToks c M q k X) := by
  unfold tail tailToks
  rw [← bigSep_sep']
  exact bigSep_mono fun j _ => owns_toks_split c _ q k _

theorem tail_join (M : Memref sig .tc .vmem (Pages (n + 1)) .bf16) (q : PosShare TreeShare) (k : ℕ) (X : Fin (n + 1) → S8x1024.Idx → Val .bf16) :
    iprop(tail c M (shareDrop q k) X ∗ tailToks c M q k X) ⊢ tail (U := U) c M q X := by
  unfold tail tailToks
  rw [← bigSep_sep']
  exact bigSep_mono fun j _ => owns_toks_join c _ q k _

theorem whole_eq (M : Memref sig .tc .vmem (Pages (n + 1)) .bf16) (q : PosShare TreeShare) (X : Fin (n + 1) → S8x1024.Idx → Val .bf16) :
    (owns (Ix := Unit) (Name := ℕ) (U := U) (Lvl := ℕ) (c : Thread nD τ) M q (stack X) : sProp 𝕄)
      = iprop(owns (c : Thread nD τ) (slotOf M 0) q (X 0) ∗ tail c M q X) := by
  unfold tail
  rw [← bigSep_fin_succ fun j => owns (c : Thread nD τ) (slotOf M j) q (X j)]
  exact BI.equiv_iff.mp ⟨owns_stack c M q X, slots_join c M q X⟩

/-- While `k` tokens of the first slot are lent, the whole array can still be owned at what remains of the share; -/
theorem stack_lend (M : Memref sig .tc .vmem (Pages (n + 1)) .bf16) (q : PosShare TreeShare) (k : ℕ) (X : Fin (n + 1) → S8x1024.Idx → Val .bf16) :
    iprop(owns (c : Thread nD τ) (slotOf M 0) (shareDrop q k) (X 0) ∗ tail (U := U) c M q X)
      ⊢ iprop(owns (c : Thread nD τ) M (shareDrop q k) (stack X) ∗ tailToks c M q k X) := by
  rw [whole_eq]
  iintro ⟨H0, Ht⟩
  ihave Ht := (tail_split c M q k X) $$ Ht
  icases Ht with ⟨Ht, Htoks⟩
  isplitl [H0 Ht]
  · isplitl [H0] <;> iassumption
  · iassumption

/-- and once the lent tokens are back, the whole array is owned at the whole share. -/
theorem stack_back (M : Memref sig .tc .vmem (Pages (n + 1)) .bf16) (q : PosShare TreeShare) (k : ℕ) (X : Fin (n + 1) → S8x1024.Idx → Val .bf16) :
    iprop((owns (c : Thread nD τ) M (shareDrop q k) (stack X) ∗ tailToks (U := U) c M q k X)
        ∗ bigSep Finset.univ fun i : Fin k => owns (c : Thread nD τ) (slotOf M 0) (shareTok q k i) (X 0))
      ⊢ owns (c : Thread nD τ) M q (stack X) := by
  rw [whole_eq, whole_eq]
  iintro ⟨⟨⟨H0, Ht⟩, Htoks⟩, Hl⟩
  isplitl [H0 Hl]
  · iapply (owns_toks_join c (slotOf M 0) q k (X 0))
    isplitl [H0] <;> iassumption
  · iapply (tail_join c M q k X)
    isplitl [Ht] <;> iassumption

end Whole

end Cert.AdaNorm
-- ==== Proof.Schedule.lean ====
/-
# The exchange's rounds

Every semaphore cell of the exchange has one round. A device's barrier cell has ten duties of one unit, duty `d` paid
by the device `pr d` of it and handing over the slot there that copy `d` lands in. A send cell has one duty, paid when
the copy has read its source, which returns the share of the source slot it was lent. A receive cell has one duty,
paid when the copy has landed, which hands over the slot it landed in holding what its sender sent.
-/
module

public import proofs.«01_k».proof.Proof.Slots

@[expose] public section

noncomputable section

namespace Cert.AdaNorm

open Cert.KernelIdeal Cert.KernelIdeal.Gen
open Idealize.ShloMosaic
open Idealize.ShloMosaic.TcCoe
open Idealize.ShloMosaic.Transfers (shareDrop shareTok shareTokN)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A page's contents. -/
abbrev Pg (F : FTy → Type) : Type := S8x1024.Idx → Elt F .bf16

/-- The share of its source slot copy `k` is lent. -/
def tokq (k : Fin 10) : PosShare TreeShare := shareTokN fullShare (if k.val < 7 then k.val else k.val - 7)

-- `V k c`: what copy `k` of device `c` carries.
variable (V : Fin 10 → Dev nD → Pg F)

/-- The slot copy `d` lands in, on device `c`, at some contents. -/
def free (d : Fin 10) (c : Dev nD) : sProp 𝕄 :=
  iprop(∃ f : Buf (Elt F) ((dstM d).view.loc (c : Thread nD τ)), (dstM d).view.loc (c : Thread nD τ) ↦[(dstM d).view.set]{fullShare} f)
/-- What copy `k`'s send returns to `c`: the lent share of the source slot. -/
def lent (k : Fin 10) (c : Dev nD) : sProp 𝕄 := owns (c : Thread nD τ) (srcM k) (tokq k) (V k c)
/-- What device `c` receives by copy `k`, from the device whose `pr k` it is. -/
def landed (k : Fin 10) (c : Dev nD) : sProp 𝕄 := owns (c : Thread nD τ) (dstM k) fullShare (V k (pr (opp k) c))

instance free_storable (d : Fin 10) (c : Dev nD) : BI.Storable (upEmb : UEmb _ 𝕄) (free (F := F) d c) := by unfold free; infer_instance
instance lent_storable (k : Fin 10) (c : Dev nD) : BI.Storable (upEmb : UEmb _ 𝕄) (lent V k c) := by unfold lent; exact owns_storable _ _ _ _
instance landed_storable (k : Fin 10) (c : Dev nD) : BI.Storable (upEmb : UEmb _ 𝕄) (landed V k c) := by unfold landed; exact owns_storable _ _ _ _

def dutiesOf : Cl → Finset (Fin 10) | .bar => Finset.univ | _ => {0}
def unitsOf : Cl → ℕ | .bar => 1 | _ => N
def payOf (c : Dev nD) : Cl → Fin 10 → sProp 𝕄
  | .bar, d => free d (pr d c)
  | .snd k, _ => lent V k c
  | .rcv k, _ => landed V k c

instance payOf_storable (c : Dev nD) (x : Cl) (d : Fin 10) : BI.Storable (upEmb : UEmb _ 𝕄) (payOf V c x d) := by
  cases x <;> unfold payOf <;> infer_instance

theorem unitsOf_pos (x : Cl) : 0 < unitsOf x := by cases x <;> first | exact Nat.one_pos | exact N_pos

/-- The schedule. -/
def Rd : Rounds.Schedule (GSem nD τ sig) (Fin 10) 𝕄 where
  duties g r := if r = 0 ∧ g.1.2 = .tc then (clOf g.2).elim ∅ dutiesOf else ∅
  unitless _ := False
  amount g _ _ := (clOf g.2).elim 1 unitsOf
  payload g _ d := (clOf g.2).elim iprop(emp) fun x => payOf V g.1.1 x d
  amount_pos g _ _ _ := by
    cases clOf g.2 with
    | none => exact Nat.one_pos
    | some x => exact unitsOf_pos x

instance Rd_payload_storable (g : GSem nD τ sig) (r : ℕ) (d : Fin 10) : BI.Storable (upEmb : UEmb _ 𝕄) ((Rd V).payload g r d) := by
  show BI.Storable upEmb ((clOf g.2).elim iprop(emp) fun x => payOf V g.1.1 x d)
  cases clOf g.2 <;> simp only [Option.elim] <;> infer_instance

section Cells
variable (c : Dev nD) (x : Cl)

theorem duties_cell : (Rd V).duties (cell c x) 0 = dutiesOf x := by
  dsimp only [Rd]; rw [if_pos ⟨rfl, rfl⟩, clOf_csem]; rfl
theorem duties_later (g : GSem nD τ sig) : ∀ r, 1 ≤ r → (Rd V).duties g r = ∅ :=
  fun r hr => by dsimp only [Rd]; exact if_neg fun h => by omega
theorem amount_cell (d : Fin 10) : (Rd V).amount (cell c x) 0 d = unitsOf x := by
  show (clOf (csem x)).elim 1 unitsOf = _
  rw [clOf_csem]; rfl
theorem payload_cell (d : Fin 10) : (Rd V).payload (cell c x) 0 d = payOf V c x d := by
  show (clOf (csem x)).elim iprop(emp) (fun x => payOf V c x d) = _
  rw [clOf_csem]; rfl

/-- The units a cell's round awaits. -/
def expOf : Cl → ℕ | .bar => 10 | _ => N
theorem expect_cell : (Rd V).expect (cell c x) 0 = expOf x := by
  unfold Schedule.expect Schedule.amountOf
  rw [duties_cell, Finset.sum_congr rfl fun d _ => amount_cell V c x d]
  cases x <;> simp [dutiesOf, unitsOf, expOf]

/-- What a cell's whole round hands over. -/
def allOf : Cl → sProp 𝕄
  | .bar => bigSep Finset.univ fun d : Fin 10 => free d (pr d c)
  | .snd k => lent V k c
  | .rcv k => landed V k c
theorem rest_cell : bigSep ((Rd V).duties (cell c x) 0 \ ∅) (fun d => (Rd V).payload (cell c x) 0 d) = allOf V c x := by
  rw [Finset.sdiff_empty, duties_cell, bigSep_congr fun d _ => payload_cell V c x d]
  cases x with
  | bar => rfl
  | snd k => exact bigSep_singleton
  | rcv k => exact bigSep_singleton

end Cells

/-! ## What is owed, and the levels -/

/-- The credits of the copies in `l`, owed to their receivers. -/
def OC (c : Dev nD) : List (Fin 10) → CellTallies nD τ sig Unit
  | [] => 0
  | k :: t => OC c t + tallyAt (cell (pr k c) (.rcv k)) () N
/-- All ten copies' credits and the units of the signals in `l`. -/
def OS (c : Dev nD) : List (Fin 10) → CellTallies nD τ sig Unit
  | [] => OC c [0, 1, 2, 3, 4, 5, 6, 7, 8, 9]
  | k :: t => OS c t + tallyAt (cell (pr k c) .bar) () 1
/-- What device `c` owes at launch. -/
def O₀ (c : Dev nD) : CellTallies nD τ sig Unit := OS c [0, 1, 2, 3, 4, 5, 6, 7, 8, 9]

def L (g : GSem nD τ sig) : Finset Unit := if g.1.2 = .tc then {()} else ∅
/-- Barrier cells below plane receives below cross-plane receives; everything else at the bottom. -/
def lvOf : Cl → ℕ | .bar => 1 | .rcv k => if k.val < 7 then 2 else 3 | .snd _ => 0
def lv (g : GSem nD τ sig) (_ : Unit) : ℕ := (clOf g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cl) : lv (cell c x) () = lvOf x := by
  show (clOf (csem x)).elim 0 lvOf = _
  rw [clOf_csem]; rfl

theorem OC_pos {c : Dev nD} {l : List (Fin 10)} {g : GSem nD τ sig} {u : Unit} (h : 0 < OC c l g u) : ∃ k ∈ l, g = cell (pr k c) (.rcv k) := by
  induction l with
  | nil => exact absurd h (Nat.lt_irrefl 0)
  | cons k t ih =>
    unfold OC at h
    rw [Pi.add_apply, Finsupp.add_apply, tallyAt_apply] at h
    by_cases hg : g = cell (pr k c) (.rcv k) ∧ u = ()
    · exact ⟨k, List.mem_cons_self, hg.1⟩
    · rw [if_neg hg] at h
      obtain ⟨k', hk', e⟩ := ih h
      exact ⟨k', List.mem_cons_of_mem _ hk', e⟩

theorem OS_pos {c : Dev nD} {l : List (Fin 10)} {g : GSem nD τ sig} {u : Unit} (h : 0 < OS c l g u) :
    (∃ k, g = cell (pr k c) (.rcv k)) ∨ ∃ k, g = cell (pr k c) .bar := by
  induction l with
  | nil => obtain ⟨k, _, e⟩ := OC_pos h; exact .inl ⟨k, e⟩
  | cons k t ih =>
    unfold OS at h
    rw [Pi.add_apply, Finsupp.add_apply, tallyAt_apply] at h
    by_cases hg : g = cell (pr k c) .bar ∧ u = ()
    · exact .inr ⟨k, hg.1⟩
    · rw [if_neg hg] at h; exact ih h

/-- A wait on a semaphore of level `n` may be made while owing only cells above `n`. -/
theorem mayWait_of (c : Dev nD) (sm : SemLoc sig) (n : ℕ) (hn : lv ((c : Thread nD τ), sm) () ≤ n) (O : CellTallies nD τ sig Unit)
    (hO : ∀ g u, 0 < O g u → ∃ e x, g = cell e x ∧ n < lvOf x) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨e, x, rfl, _⟩ := hO g u hg; rw [L_tc]; exact Finset.mem_singleton_self _)
    (fun p hp => by rw [Finset.mem_singleton.mp hp]; exact hn)
    (fun g u hg => by obtain ⟨e, x, rfl, h⟩ := hO g u hg; rw [show lv (cell e x) u = lvOf x from lv_cell e x]; exact h)

/-- A staging semaphore may be waited on while everything is owed; -/
theorem mayWait_stage (c : Dev nD) (sm : SemLoc sig) (h : clOf sm = none) (O : CellTallies nD τ sig Unit) (hO : O = O₀ c ∨ O = 0) :
    (levAts L lv : sProp 𝕄) ⊢ MayWait (c : Thread nD τ) sm () O := by
  rcases hO with rfl | rfl
  · refine mayWait_of c sm 0 (by show (clOf sm).elim 0 lvOf ≤ 0; rw [h]; exact Nat.le_refl 0) _ fun g u hg => ?_
    rcases OS_pos hg with ⟨k, rfl⟩ | ⟨k, rfl⟩
    · exact ⟨_, _, rfl, by unfold lvOf; dsimp only; split <;> decide⟩
    · exact ⟨_, _, rfl, by decide⟩
  · rw [MayWait_zero]; iintro -; iempintro

/-- the barrier while owing the copies; -/
theorem mayWait_bar (c : Dev nD) (l : List (Fin 10)) : (levAts L lv : sProp 𝕄) ⊢ MayWait (c : Thread nD τ) (csem .bar) () (OC c l) :=
  mayWait_of c _ 1 (by rw [show lv ((c : Thread nD τ), csem .bar) () = 1 from lv_cell c .bar]) _ fun g u hg => by
    obtain ⟨k, _, rfl⟩ := OC_pos hg
    exact ⟨_, _, rfl, by unfold lvOf; dsimp only; split <;> decide⟩

/-- and a plane receive while owing the cross-plane copies. -/
theorem mayWait_rcv (c : Dev nD) (k : Fin 10) (l : List (Fin 10)) (hk : k.val < 7) (hl : ∀ j ∈ l, 7 ≤ j.val) :
    (levAts L lv : sProp 𝕄) ⊢ MayWait (c : Thread nD τ) (csem (.rcv k)) () (OC c l) :=
  mayWait_of c _ 2 (by rw [show lv ((c : Thread nD τ), csem (.rcv k)) () = lvOf (.rcv k) from lv_cell c (.rcv k)]; unfold lvOf; dsimp only; rw [if_pos hk]) _ fun g u hg => by
    obtain ⟨j, hj, rfl⟩ := OC_pos hg
    exact ⟨_, _, rfl, by unfold lvOf; dsimp only; rw [if_neg (by have := hl j hj; omega)]; decide⟩

end Cert.AdaNorm
-- ==== Proof.Ops.lean ====
/-
# The exchange's steps

One rule for each kind of step the body makes: the signal of a peer's barrier, a copy to a peer, the wait for a cell's
whole round (after which the cell is closed and its counter is zero). Each is stated once, for any copy.
-/
module

public import proofs.«01_k».proof.Proof.Schedule

@[expose] public section

noncomputable section

namespace Cert.AdaNorm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (V : Fin 10 → Dev nD → Pg F) (K : Dev nD × Cl → ℕ)

/-- A cell by device and name. -/
abbrev kcell (cx : Dev nD × Cl) : GSem nD τ sig := cell cx.1 cx.2

/-- Every cell's invariant, and that every cell has reached its round. -/
def records : sProp 𝕄 :=
  iprop((bigSep Finset.univ fun cx : Dev nD × Cl => cellInv ER (Rd V) (K cx) (kcell cx))
    ∗ bigSep Finset.univ fun cx : Dev nD × Cl => reached ER (kcell cx) 0)

instance records_persistent : BI.Persistent (records V K) := by unfold records; infer_instance

theorem inv_at (c : Dev nD) (x : Cl) : records V K ⊢ cellInv ER (Rd V) (K (c, x)) (cell c x) := by
  have h : (bigSep Finset.univ fun cx : Dev nD × Cl => (cellInv ER (Rd V) (K cx) (kcell cx) : sProp 𝕄)) ⊢ cellInv ER (Rd V) (K (c, x)) (cell c x) :=
    bigSep_elim (Finset.mem_univ (c, x))
  unfold records
  iintro ⟨H, -⟩
  iapply h
  iexact H
theorem reached_at (c : Dev nD) (x : Cl) : records V K ⊢ reached ER (cell c x) 0 := by
  have h : (bigSep Finset.univ fun cx : Dev nD × Cl => (reached ER (kcell cx) 0 : sProp 𝕄)) ⊢ reached ER (cell c x) 0 :=
    bigSep_elim (Finset.mem_univ (c, x))
  unfold records
  iintro ⟨-, H⟩
  iapply h
  iexact H

/-- What `c` owes, at some waits made. -/
def owesW (c : Dev nD) (O : CellTallies nD τ sig Unit) : sProp 𝕄 := iprop(∃ W, owes (c : Thread nD τ) O W)

variable {α : Type} (c : Dev nD)

/-- Signal `k`: pays duty `opp k` of the peer's barrier, handing over the slot here that the peer's copy lands in. -/
theorem wp_sig (k : Fin 10) (l : List (Fin 10)) (n : Dev nD) (hn : n = pr k c) {sm : Sem sig} (hsm : sm = barS) {u : ℤ} (hu : u = 1)
    {Q : α → sProp 𝕄} {kt : PUnit → Prog (TpuEff nD τ sig (Elt F) Λ₀ .tc) α} :
    iprop(records V K ∗ owesW c (OS c (k :: l)) ∗ dutyTok ER (cell (pr k c) .bar) 0 (opp k) ∗ free (opp k) c)
      ⊢ iprop((owesW c (OS c l) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) sm u) kt) Q) := by
  subst hn hsm hu
  unfold owesW
  iintro ⟨#HR, ⟨%W, HO⟩, Ht, Hf⟩ Hk
  iapply (Rounds.wp_signal 𝒱₀ ER (Rd V) (c : Thread nD τ) none (dst := (pr k c : Thread nD τ)) (κ := K (pr k c, .bar)) (r := 0)
      (d := opp k) (by rw [show ((pr k c : Thread nD τ), SemLoc.reg barS) = cell (pr k c) .bar from rfl, duties_cell]; exact Finset.mem_univ _)
      (amount_cell V (pr k c) .bar (opp k)) () (OS c l) rfl) $$ [HO Ht Hf]
  · isplitr; · iapply (inv_at V K (pr k c) .bar); iexact HR
    isplitl [HO]; · iexact HO
    isplitl [Ht]; · iexact Ht
    isplitl [Hf]
    · rw [show (Rd V).payload ((pr k c : Thread nD τ), SemLoc.reg barS) 0 (opp k) = free (opp k) c from
        (payload_cell V (pr k c) .bar (opp k)).trans (by unfold payOf; dsimp only; rw [pr_opp])]
      iexact Hf
    · iapply (reached_at V K (pr k c) .bar); iexact HR
  iintro HO
  iapply Hk
  iexists W
  iexact HO

/-- The copy rule at a source and a destination given with what they pay. -/
theorem wp_copy_of (k : Fin 10) (l : List (Fin 10)) (src dst : Memref sig .tc .vmem S8x1024 .bf16)
    (hd1 : (0 : Fin 10) ∈ (Rd V).duties ((c : Thread nD τ), .dma (sndS k)) 0)
    (hd2 : (0 : Fin 10) ∈ (Rd V).duties ((pr k c : Thread nD τ), .dma (rcvS k)) 0)
    (hk1 : (Rd V).amount ((c : Thread nD τ), .dma (sndS k)) 0 0 = N) (hk2 : (Rd V).amount ((pr k c : Thread nD τ), .dma (rcvS k)) 0 0 = N)
    (hN : dst.view.dmaCredit = N) {q : PosShare TreeShare} {X : Pg F}
    (hp1 : ∀ fs : Buf (Elt F) (src.view.loc (c : Thread nD τ)), src.view.read (Elt F) fs = X →
      ((src.view.loc (c : Thread nD τ) ↦[src.view.set]{q} fs) ⊢ (Rd V).payload ((c : Thread nD τ), .dma (sndS k)) 0 0))
    (hp2 : ∀ fs : Buf (Elt F) (src.view.loc (c : Thread nD τ)), src.view.read (Elt F) fs = X → ∀ fd : Buf (Elt F) (dst.view.loc (pr k c : Thread nD τ)),
      ((dst.view.loc (pr k c : Thread nD τ) ↦[dst.view.set]{fullShare} (dst.view.write (Elt F) fd (src.view.read (Elt F) fs) Finset.univ))
        ⊢ (Rd V).payload ((pr k c : Thread nD τ), .dma (rcvS k)) 0 0))
    {hsc : dst.view.ref.isScScratch = false} {hsrc : src.view.WordExact} {hdst : dst.view.WordExact}
    {hsem : DmaTarget.Typed .vmem (.dma (rcvS k)) (.remote (Dev.tc (pr k c) : Thread nD τ) dst (.dma (sndS k)) hsc)}
    {Q : α → sProp 𝕄} {kt : PUnit → Prog (TpuEff nD τ sig (Elt F) Λ₀ .tc) α} :
    iprop(records V K ∗ owesW c (OC c (k :: l)) ∗ owns (c : Thread nD τ) src q X
        ∗ (∃ f : Buf (Elt F) (dst.view.loc (pr k c : Thread nD τ)), dst.view.loc (pr k c : Thread nD τ) ↦[dst.view.set]{fullShare} f)
        ∗ dutyTok ER (cell c (.snd k)) 0 0 ∗ dutyTok ER (cell (pr k c) (.rcv k)) 0 0)
      ⊢ iprop(((cred (tallyAt (cell c (.snd k)) () N) ∗ owesW c (OC c l)) -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma src (.remote (Dev.tc (pr k c) : Thread nD τ) dst (.dma (sndS k)) hsc) (.dma (rcvS k)) hsrc hdst hsem) kt) Q) := by
  unfold owesW
  iintro ⟨#HR, ⟨%W, HO⟩, Hs, ⟨%fd, Hd⟩, Ht1, Ht2⟩ Hk
  ihave Hs := (owns_open c src q) $$ Hs
  icases Hs with ⟨%fs, %hfs, Hs⟩
  iapply (Rounds.wp_send_pointsTo 𝒱₀ ER (Rd V) (c : Thread nD τ) none (c' := (pr k c : Thread nD τ)) (src := src) (dst := dst) (sS := .dma (sndS k)) (sem := .dma (rcvS k))
      (κ₁ := K (c, .snd k)) (κ₂ := K (pr k c, .rcv k)) (r₁ := 0) (r₂ := 0) (d₁ := 0) (d₂ := 0) (q := q) (fs := fs) (fd := fd)
      hd1 hd2 () () N hN hk1 hk2 (OC c l) rfl (W := W) (hp1 fs hfs) (hp2 fs hfs fd))
    $$ [HO Hs Hd Ht1 Ht2]
  · isplitr; · iapply (inv_at V K c (.snd k)); iexact HR
    isplitr; · iapply (inv_at V K (pr k c) (.rcv k)); iexact HR
    isplitl [Hs]; · iexact Hs
    isplitl [Hd]; · iexact Hd
    isplitl [HO]; · iexact HO
    isplitl [Ht1]; · iexact Ht1
    isplitr; · iapply (reached_at V K c (.snd k)); iexact HR
    isplitl [Ht2]; · iexact Ht2
    iapply (reached_at V K (pr k c) (.rcv k)); iexact HR
  iintro ⟨Hc, HO⟩
  iapply Hk
  isplitl [Hc]; · iexact Hc
  iexists W
  iexact HO

/-- Copy `k`: lends its share of the source slot, lands in the peer's slot, and earns the credit of its own send cell. -/
theorem wp_copy (k : Fin 10) (l : List (Fin 10)) (n : Dev nD) (hn : n = pr k c)
    {src : Memref sig .tc .vmem S8x1024 .bf16} (hs : src = srcM k) {dst : Memref sig (Dev.tc n : Thread nD τ).2.kind .vmem S8x1024 .bf16} (hd : dst = dstM k)
    {sS sR : SemLoc sig} (hsS : sS = .dma (sndS k)) (hsR : sR = .dma (rcvS k))
    {hsc : dst.view.ref.isScScratch = false} {hsrc : src.view.WordExact} {hdst : dst.view.WordExact}
    {hsem : DmaTarget.Typed .vmem sR (.remote (Dev.tc n : Thread nD τ) dst sS hsc)}
    {Q : α → sProp 𝕄} {kt : PUnit → Prog (TpuEff nD τ sig (Elt F) Λ₀ .tc) α} :
    iprop(records V K ∗ owesW c (OC c (k :: l)) ∗ lent V k c ∗ free k (pr k c)
        ∗ dutyTok ER (cell c (.snd k)) 0 0 ∗ dutyTok ER (cell (pr k c) (.rcv k)) 0 0)
      ⊢ iprop(((cred (tallyAt (cell c (.snd k)) () N) ∗ owesW c (OC c l)) -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma src (.remote (Dev.tc n : Thread nD τ) dst sS hsc) sR hsrc hdst hsem) kt) Q) := by
  subst hn hs hd hsS hsR
  have hd1 : (0 : Fin 10) ∈ (Rd V).duties ((c : Thread nD τ), .dma (sndS k)) 0 := by
    rw [show ((c : Thread nD τ), SemLoc.dma (sndS k)) = cell c (.snd k) from rfl, duties_cell]; exact Finset.mem_singleton_self _
  have hd2 : (0 : Fin 10) ∈ (Rd V).duties ((pr k c : Thread nD τ), .dma (rcvS k)) 0 := by
    rw [show ((pr k c : Thread nD τ), SemLoc.dma (rcvS k)) = cell (pr k c) (.rcv k) from rfl, duties_cell]; exact Finset.mem_singleton_self _
  have hk1 : (Rd V).amount ((c : Thread nD τ), .dma (sndS k)) 0 0 = N := amount_cell V c (.snd k) 0
  have hk2 : (Rd V).amount ((pr k c : Thread nD τ), .dma (rcvS k)) 0 0 = N := amount_cell V (pr k c) (.rcv k) 0
  have hp1 (fs : Buf (Elt F) ((srcM k).view.loc (c : Thread nD τ))) (hfs : (srcM k).view.read (Elt F) fs = V k c) : ((srcM k).view.loc (c : Thread nD τ) ↦[(srcM k).view.set]{tokq k} fs) ⊢ (Rd V).payload ((c : Thread nD τ), .dma (sndS k)) 0 0 :=
    (owns_of c (srcM k) (tokq k) hfs).trans (Entails.of_eq (payload_cell V c (.snd k) 0).symm)
  have hp2 (fs : Buf (Elt F) ((srcM k).view.loc (c : Thread nD τ))) (hfs : (srcM k).view.read (Elt F) fs = V k c)
      (fd : Buf (Elt F) ((dstM k).view.loc (pr k c : Thread nD τ))) : ((dstM k).view.loc (pr k c : Thread nD τ) ↦[(dstM k).view.set]{fullShare} ((dstM k).view.write (Elt F) fd ((srcM k).view.read (Elt F) fs) Finset.univ))
      ⊢ (Rd V).payload ((pr k c : Thread nD τ), .dma (rcvS k)) 0 0 :=
    (owns_of (X := V k (pr (opp k) (pr k c))) (pr k c) (dstM k) fullShare (by rw [View.read_write_univ, hfs, pr_opp])).trans (Entails.of_eq (payload_cell V (pr k c) (.rcv k) 0).symm)
  exact wp_copy_of V K c k l (srcM k) (dstM k) hd1 hd2 hk1 hk2 (amount_dst k) hp1 hp2

/-- The wait for a cell's whole round: its payloads, and the cell closed. -/
theorem wp_await (x : Cl) (O : CellTallies nD τ sig Unit) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem x) (expOf x) Kt)
    {Q : α → sProp 𝕄} {kt : PUnit → Prog (TpuEff nD τ sig (Elt F) Λ₀ .tc) α} :
    iprop(records V K ∗ cred (tallyAt (cell c x) () (expOf x)) ∗ owesW c O ∗ MayWait (c : Thread nD τ) (csem x) () O ∗ atPos ER (cell c x) 0 ∅ 0)
      ⊢ iprop(((owesW c O ∗ semVal (cell c x) 0 ∗ allOf V c x) -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold owesW
  iintro ⟨#HR, Hc, ⟨%W, HO⟩, Hm, Hat⟩ Hk
  ihave #HI := (inv_at V K c x) $$ HR
  iapply (Rounds.wp_wait_rest_token 𝒱₀ ER (Rd V) (c : Thread nD τ) none (κ := K (c, x)) hw (Set.mem_univ _) () (O := O) (W := W) (R := 0) (m := 0) (T := ∅)
      (by rw [Nat.zero_add, expect_cell])) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hpay := (Entails.of_eq (rest_cell V c x)) $$ Hpay
  imod (Rounds.cell_close ER (Rd V) (Set.mem_univ (K (c, x))) (fun h => h) (R := 0 + 1) (duties_later V (cell c x))) $$ [Hat] with Hz
  · isplitr; · iexact HI
    iexact Hat
  iapply Hk
  isplitl [HO]; · iexists (insert (csem x, ()) W); iexact HO
  isplitl [Hz]; · iexact Hz
  iexact Hpay

/-- The barrier's wait, while owing the copies. -/
theorem wp_barrier (l : List (Fin 10)) {sm : Sem sig} (hsm : sm = barS) {u : ℤ} (hu : u = 10) {Q : α → sProp 𝕄} {kt : PUnit → Prog (TpuEff nD τ sig (Elt F) Λ₀ .tc) α} :
    iprop(records V K ∗ levAts L lv ∗ cred (tallyAt (cell c .bar) () 10) ∗ owesW c (OC c l) ∗ atPos ER (cell c .bar) 0 ∅ 0)
      ⊢ iprop(((owesW c (OC c l) ∗ semVal (cell c .bar) 0 ∗ bigSep Finset.univ fun d : Fin 10 => free d (pr d c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait sm u) kt) Q) := by
  subst hsm hu
  refine BIBase.Entails.trans ?_ (wp_await V K c .bar (OC c l) (wpE_semWait_eq 𝒱₀ (c : Thread nD τ) none Set.univ))
  iintro ⟨HR, Hl, Hc, HO, Hat⟩
  isplitl [HR]; · iexact HR
  isplitl [Hc]; · iexact Hc
  isplitl [HO]; · iexact HO
  isplitl [Hl]; · iapply (mayWait_bar c l); iexact Hl
  iexact Hat

/-- A DMA wait on one of the exchange's cells, while owing the copies in `l`. -/
theorem wp_dma (x : Cl) (l : List (Fin 10)) (hx : expOf x = N) {sm : DmaSem sig} (hsm : SemLoc.dma sm = csem x)
    (hM : (levAts L lv : sProp 𝕄) ⊢ MayWait (c : Thread nD τ) (csem x) () (OC c l))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(records V K ∗ levAts L lv ∗ cred (tallyAt (cell c x) () N) ∗ owesW c (OC c l) ∗ atPos ER (cell c x) 0 ∅ 0)
      ⊢ iprop(((owesW c (OC c l) ∗ semVal (cell c x) 0 ∗ allOf V c x) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) := by
  refine BIBase.Entails.trans ?_ (wp_await V K c x (OC c l) (fun Kt => by rw [hx, ← hN, ← hsm]; exact wpE_waitDma2_eq 𝒱₀ (c : Thread nD τ) none Set.univ Kt))
  rw [hx]
  iintro ⟨HR, Hl, Hc, HO, Hat⟩
  isplitl [HR]; · iexact HR
  isplitl [Hc]; · iexact Hc
  isplitl [HO]; · iexact HO
  isplitl [Hl]; · iapply hM; iexact Hl
  iexact Hat

/-- The wait for a plane receive, while owing cross-plane copies; -/
theorem wp_recv1 (k : Fin 10) (hk : k.val < 7) (l : List (Fin 10)) (hl : ∀ j ∈ l, 7 ≤ j.val) {sm : DmaSem sig} (hsm : SemLoc.dma sm = csem (.rcv k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(records V K ∗ levAts L lv ∗ cred (tallyAt (cell c (.rcv k)) () N) ∗ owesW c (OC c l) ∗ atPos ER (cell c (.rcv k)) 0 ∅ 0)
      ⊢ iprop(((owesW c (OC c l) ∗ semVal (cell c (.rcv k)) 0 ∗ landed V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  wp_dma V K c (.rcv k) l rfl hsm (mayWait_rcv c k l hk hl) hN

/-- a wait while nothing is owed. -/
theorem mayWait_none (x : Cl) : (levAts L lv : sProp 𝕄) ⊢ MayWait (c : Thread nD τ) (csem x) () (OC c []) := by
  unfold OC; rw [MayWait_zero]; iintro -; iempintro
theorem wp_recv2 (k : Fin 10) {sm : DmaSem sig} (hsm : SemLoc.dma sm = csem (.rcv k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(records V K ∗ levAts L lv ∗ cred (tallyAt (cell c (.rcv k)) () N) ∗ owesW c (OC c []) ∗ atPos ER (cell c (.rcv k)) 0 ∅ 0)
      ⊢ iprop(((owesW c (OC c []) ∗ semVal (cell c (.rcv k)) 0 ∗ landed V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  wp_dma V K c (.rcv k) [] rfl hsm (mayWait_none c _) hN
theorem wp_sent (k : Fin 10) {sm : DmaSem sig} (hsm : SemLoc.dma sm = csem (.snd k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(records V K ∗ levAts L lv ∗ cred (tallyAt (cell c (.snd k)) () N) ∗ owesW c (OC c []) ∗ atPos ER (cell c (.snd k)) 0 ∅ 0)
      ⊢ iprop(((owesW c (OC c []) ∗ semVal (cell c (.snd k)) 0 ∗ lent V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  wp_dma V K c (.snd k) [] rfl hsm (mayWait_none c _) hN

end Cert.AdaNorm
-- ==== Proof.Pages.lean ====
/-
# What the slots hold

From the four input blocks of every device: the page of partial sums a device sends around its plane, the eight pages
it then holds, the page it sends across planes, the four pages it then holds, and the block it writes.
-/
module

public import proofs.«01_k».proof.Proof.Ops
public import proofs.«01_k».proof.Proof.Gen.KernelIdeal.Launch
public import proofs.«01_k».proof.Proof.Gen.KernelIdeal.Skeleton

@[expose] public section

noncomputable section

namespace Cert.AdaNorm

open Cert.KernelIdeal Cert.KernelIdeal.Gen
open Idealize.ShloMosaic
open Idealize.ShloMosaic.TcCoe
open Idealize.ShloMosaic.Pipeline (Dat Cfg Window BodyObligation cellOf)
open Idealize.ShloMosaic.Transfers (shareDrop shareTok shareTokN)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The staged inputs -/

def xAt (c : Dev nD) : (cc0_stg0_0 : Ref sig .tc).ty.Contents (Elt F) :=
  (win0_0.blk (0 : Fin 1)).view.read (Elt F) (m ((c : Thread nD τ).loc main_arg0))
def tAt (c : Dev nD) : (cc0_stg1_0 : Ref sig .tc).ty.Contents (Elt F) :=
  (win0_1.blk (0 : Fin 1)).view.read (Elt F) (m ((c : Thread nD τ).loc main_arg1))
def wsAt (c : Dev nD) : (cc0_stg2_0 : Ref sig .tc).ty.Contents (Elt F) :=
  (win0_2.blk (0 : Fin 1)).view.read (Elt F) (m ((c : Thread nD τ).loc main_arg2))
def whAt (c : Dev nD) : (cc0_stg3_0 : Ref sig .tc).ty.Contents (Elt F) :=
  (win0_3.blk (0 : Fin 1)).view.read (Elt F) (m ((c : Thread nD τ).loc main_arg3))

/-! ## The pages -/

/-- A one-page array as a page. -/
def flat (w : S1x8x1024.Idx → Elt F .bf16) : Pg F := fun y => w (Shape.reshapeEquiv squeezes_S1x8x1024_S8x1024.numel_eq y)

/-- The page of device `c`'s own sums. -/
def P1 (c : Dev nD) : Pg F := flat (k0_pay3 (k0_pay2 (xAt m c)))
/-- The pages device `c` holds after the plane exchange: its own, then the one each of its plane peers sent. -/
def X1 (c : Dev nD) : Fin 8 → Pg F := Fin.cons (P1 m c) fun j : Fin 7 => P1 m (pr (opp (Fin.castLE (by decide) j)) c)
/-- The page of device `c`'s plane's sums. -/
def P2 (c : Dev nD) : Pg F := flat (k0_pay7 (stack (X1 m c)))
/-- The pages device `c` holds after the cross-plane exchange. -/
def X2 (c : Dev nD) : Fin 4 → Pg F := Fin.cons (P2 m c) fun j : Fin 3 => P2 m (pr (opp (Fin.natAdd 7 j)) c)
/-- What copy `k` of device `c` carries. -/
def VV (k : Fin 10) (c : Dev nD) : Pg F := if k.val < 7 then P1 m c else P2 m c

/-- The block device `c` writes. -/
def outAt (c : Dev nD) : (cc0_stg4_0 : Ref sig .tc).ty.Contents (Elt F) :=
  k0_pay12 (k0_pay1 (xAt m c)) (k0_pay5 (k0_pay4 (tAt m c)) (wsAt m c)) (k0_pay6 (tAt m c) (whAt m c))
    (k0_pay10 (stack (X2 m c))) (k0_pay11 (stack (X2 m c)))

/-! ## Storing a page -/

section Store
variable {n : ℕ} (M : Memref sig .tc .vmem (Pages n) .bf16) (j : Fin n)

theorem slot_set : (slotOf M j).view.set = (M.view.slice (page j)).set :=
  (M.view.slice (page j)).set_reshape squeezes_S1x8x1024_S8x1024.numel_eq
theorem load_slot : M.view.setOn (page j).toLoadRect.set ⊆ (slotOf M j).view.set := by
  rw [slot_set, View.set_slice]
  exact Finset.Subset.refl _
theorem store_slot : (M.access (page j)).setOn Finset.univ ⊆ (slotOf M j).view.set := by
  rw [slot_set]
  exact Finset.Subset.refl _
/-- A slot stored to reads what was stored. -/
theorem slot_stored (f : M.view.ty.Contents (Elt F)) (w : S1x8x1024.Idx → Elt F .bf16) :
    (slotOf M j).view.read (Elt F) ((M.access (page j)).write (Elt F) f w Finset.univ) = flat w := by
  funext y
  have h1 : (slotOf M j).view.emb y = (M.access (page j)).emb (Shape.reshapeEquiv squeezes_S1x8x1024_S8x1024.numel_eq y) := rfl
  rw [View.read_apply, h1, ← View.read_apply, View.read_write_univ]
  rfl
end Store

/-! ## The tokens and slots copy by copy -/

theorem lent_plane (c : Dev nD) (i : Fin 7) :
    (lent (VV m) (Fin.castLE (by decide) i) c : sProp 𝕄) = owns (c : Thread nD τ) (slot1 0) (shareTok fullShare 7 i) (X1 m c 0) := by
  fin_cases i <;> rfl
theorem lent_cross (c : Dev nD) (i : Fin 3) :
    (lent (VV m) (Fin.natAdd 7 i) c : sProp 𝕄) = owns (c : Thread nD τ) (slot2 0) (shareTok fullShare 3 i) (X2 m c 0) := by
  fin_cases i <;> rfl
theorem landed_plane (c : Dev nD) (j : Fin 7) :
    (landed (VV m) (Fin.castLE (by decide) j) c : sProp 𝕄) = owns (c : Thread nD τ) (slot1 j.succ) fullShare (X1 m c j.succ) := by
  fin_cases j <;> rfl
theorem landed_cross (c : Dev nD) (j : Fin 3) :
    (landed (VV m) (Fin.natAdd 7 j) c : sProp 𝕄) = owns (c : Thread nD τ) (slot2 j.succ) fullShare (X2 m c j.succ) := by
  fin_cases j <;> rfl

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The first scratch's slot 0, lent seven times: what is kept and the seven tokens. -/
theorem lend_plane (c : Dev nD) :
    (owns (c : Thread nD τ) (slot1 0) fullShare (flat (k0_pay3 (k0_pay2 (xAt m c)))) : sProp 𝕄)
      ⊢ iprop(owns (c : Thread nD τ) (slot1 0) (shareDrop fullShare 7) (X1 m c 0)
          ∗ bigSep Finset.univ fun i : Fin 7 => lent (VV m) (Fin.castLE (by decide) i) c) := by
  simp only [lent_plane]
  exact owns_toks_split c (slot1 0) fullShare 7 (P1 m c)
/-- The second's, lent three times. -/
theorem lend_cross (c : Dev nD) :
    (owns (c : Thread nD τ) (slot2 0) fullShare (flat (k0_pay7 (stack (X1 m c)))) : sProp 𝕄)
      ⊢ iprop(owns (c : Thread nD τ) (slot2 0) (shareDrop fullShare 3) (X2 m c 0)
          ∗ bigSep Finset.univ fun i : Fin 3 => lent (VV m) (Fin.natAdd 7 i) c) := by
  simp only [lent_cross]
  exact owns_toks_split c (slot2 0) fullShare 3 (P2 m c)

/-- All pages of the plane exchange in, the scratch can be read whole; -/
theorem whole_plane (c : Dev nD) :
    iprop(owns (c : Thread nD τ) (slot1 0) (shareDrop fullShare 7) (X1 m c 0)
        ∗ bigSep Finset.univ fun j : Fin 7 => landed (VV m) (Fin.castLE (by decide) j) c)
      ⊢ (iprop(owns (c : Thread nD τ) s1M (shareDrop fullShare 7) (stack (X1 m c)) ∗ tailToks c s1M fullShare 7 (X1 m c)) : sProp 𝕄) := by
  simp only [landed_plane]
  exact stack_lend c s1M fullShare 7 (X1 m c)
theorem whole_cross (c : Dev nD) :
    iprop(owns (c : Thread nD τ) (slot2 0) (shareDrop fullShare 3) (X2 m c 0)
        ∗ bigSep Finset.univ fun j : Fin 3 => landed (VV m) (Fin.natAdd 7 j) c)
      ⊢ (iprop(owns (c : Thread nD τ) s2M (shareDrop fullShare 3) (stack (X2 m c)) ∗ tailToks c s2M fullShare 3 (X2 m c)) : sProp 𝕄) := by
  simp only [landed_cross]
  exact stack_lend c s2M fullShare 3 (X2 m c)

/-- and with the tokens back it is owned whole. -/
theorem back_plane (c : Dev nD) :
    iprop((owns (c : Thread nD τ) s1M (shareDrop fullShare 7) (stack (X1 m c)) ∗ tailToks c s1M fullShare 7 (X1 m c))
        ∗ bigSep Finset.univ fun i : Fin 7 => lent (VV m) (Fin.castLE (by decide) i) c)
      ⊢ (owns (c : Thread nD τ) s1M fullShare (stack (X1 m c)) : sProp 𝕄) := by
  simp only [lent_plane]
  exact stack_back c s1M fullShare 7 (X1 m c)
theorem back_cross (c : Dev nD) :
    iprop((owns (c : Thread nD τ) s2M (shareDrop fullShare 3) (stack (X2 m c)) ∗ tailToks c s2M fullShare 3 (X2 m c))
        ∗ bigSep Finset.univ fun i : Fin 3 => lent (VV m) (Fin.natAdd 7 i) c)
      ⊢ (owns (c : Thread nD τ) s2M fullShare (stack (X2 m c)) : sProp 𝕄) := by
  simp only [lent_cross]
  exact stack_back c s2M fullShare 3 (X2 m c)

/-- The two scratch buffers at some contents: both first slots, and every slot a copy lands in. -/
theorem scratch_split (c : Dev nD) (f : Buf (Elt F) ((c : Thread nD τ).loc cc0_scratch0)) (f' : Buf (Elt F) ((c : Thread nD τ).loc cc0_scratch1)) :
    iprop((((c : Thread nD τ).loc cc0_scratch0) ↦{fullShare} f) ∗ (((c : Thread nD τ).loc cc0_scratch1) ↦{fullShare} f'))
      ⊢ (iprop(((slot1 0).view.loc (c : Thread nD τ) ↦[(slot1 0).view.set]{fullShare} f)
          ∗ ((slot2 0).view.loc (c : Thread nD τ) ↦[(slot2 0).view.set]{fullShare} f')
          ∗ bigSep Finset.univ fun d : Fin 10 => free d c) : sProp 𝕄) := by
  have e1 : ((((c : Thread nD τ).loc cc0_scratch0) ↦{fullShare} f) : sProp 𝕄) = (s1M.view.loc (c : Thread nD τ) ↦[s1M.view.set]{fullShare} f) := by
    rw [show (s1M : Memref sig .tc .vmem (Pages 8) .bf16).view.set = Finset.univ from View.set_whole _]
  have e2 : ((((c : Thread nD τ).loc cc0_scratch1) ↦{fullShare} f') : sProp 𝕄) = (s2M.view.loc (c : Thread nD τ) ↦[s2M.view.set]{fullShare} f') := by
    rw [show (s2M : Memref sig .tc .vmem (Pages 4) .bf16).view.set = Finset.univ from View.set_whole _]
  have h1 : (s1M.view.loc (c : Thread nD τ) ↦[s1M.view.set]{fullShare} f : sProp 𝕄)
      ⊢ iprop(((slot1 0).view.loc (c : Thread nD τ) ↦[(slot1 0).view.set]{fullShare} f) ∗ bigSep Finset.univ fun j : Fin 7 => free (Fin.castLE (by decide) j) c) := by
    rw [slots_split c s1M fullShare f, bigSep_fin_succ]
    refine sep_mono_right (bigSep_mono fun j _ => ?_)
    have h : ((slotOf s1M j.succ).view.loc (c : Thread nD τ) ↦[(slotOf s1M j.succ).view.set]{fullShare} f : sProp 𝕄)
        ⊢ iprop(∃ f : Buf (Elt F) ((slotOf s1M j.succ).view.loc (c : Thread nD τ)), (slotOf s1M j.succ).view.loc (c : Thread nD τ) ↦[(slotOf s1M j.succ).view.set]{fullShare} f) := by
      iintro H; iexists f; iexact H
    fin_cases j <;> exact h
  have h2 : (s2M.view.loc (c : Thread nD τ) ↦[s2M.view.set]{fullShare} f' : sProp 𝕄)
      ⊢ iprop(((slot2 0).view.loc (c : Thread nD τ) ↦[(slot2 0).view.set]{fullShare} f') ∗ bigSep Finset.univ fun j : Fin 3 => free (Fin.natAdd 7 j) c) := by
    rw [slots_split c s2M fullShare f', bigSep_fin_succ]
    refine sep_mono_right (bigSep_mono fun j _ => ?_)
    have h : ((slotOf s2M j.succ).view.loc (c : Thread nD τ) ↦[(slotOf s2M j.succ).view.set]{fullShare} f' : sProp 𝕄)
        ⊢ iprop(∃ f : Buf (Elt F) ((slotOf s2M j.succ).view.loc (c : Thread nD τ)), (slotOf s2M j.succ).view.loc (c : Thread nD τ) ↦[(slotOf s2M j.succ).view.set]{fullShare} f) := by
      iintro H; iexists f'; iexact H
    fin_cases j <;> exact h
  rw [e1, e2]
  refine (BIClass.sep_mono h1 h2).trans ?_
  rw [bigSep_fin7, bigSep_fin3, bigSep_fin10]
  iintro ⟨⟨H, A0, A1, A2, A3, A4, A5, A6⟩, H', B0, B1, B2⟩
  isplitl [H]; · iexact H
  isplitl [H']; · iexact H'
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [B0]; · iexact B0
  isplitl [B1]; · iexact B1
  iexact B2

end Cert.AdaNorm
-- ==== Proof.Steps.lean ====
/-
# The kernel's body on one device

The bundles of tokens a device starts from, the steps of `Ops` restated over them, and the body run from first signal
to last wait.
-/
module

public import proofs.«01_k».proof.Proof.Pages

@[expose] public section

noncomputable section

namespace Cert.AdaNorm

open Cert.KernelIdeal Cert.KernelIdeal.Gen
open Idealize.ShloMosaic
open Idealize.ShloMosaic.TcCoe
open Idealize.ShloMosaic.Pipeline (Dat Cfg Window BodyObligation cellOf)
open Idealize.ShloMosaic.Transfers (shareDrop shareTok shareTokN)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 10 → Dev nD → Pg F) (K : Dev nD × Cl → ℕ) (c : Dev nD)

/-! ## The tokens a device holds, copy by copy -/

/-- The facts that stay: the cells' invariants, and the levels. -/
def base : sProp 𝕄 := iprop(records V K ∗ levAts L lv)
instance base_persistent : BI.Persistent (base V K) := by unfold base; infer_instance

/-- For signal `k`: the duty it pays and the slot it hands over. -/
def sigTok (k : Fin 10) : sProp 𝕄 := iprop(dutyTok ER (cell (pr k c) .bar) 0 (opp k) ∗ free (opp k) c)
/-- For copy `k`: the two duties it pays and the position of its send cell. -/
def cpTok (k : Fin 10) : sProp 𝕄 :=
  iprop(dutyTok ER (cell c (.snd k)) 0 0 ∗ dutyTok ER (cell (pr k c) (.rcv k)) 0 0 ∗ atPos ER (cell c (.snd k)) 0 ∅ 0)
/-- For the wait on a cell: its credit and its position. -/
def waitTok (x : Cl) : sProp 𝕄 := iprop(cred (tallyAt (cell c x) () (expOf x)) ∗ atPos ER (cell c x) 0 ∅ 0)

variable {α : Type}

theorem step_sig (k : Fin 10) (l : List (Fin 10)) (n : Dev nD) (hn : n = pr k c) {sm : Sem sig} (hsm : sm = barS) {u : ℤ} (hu : u = 1)
    {Q : α → sProp 𝕄} {kt : PUnit → Prog (TpuEff nD τ sig (Elt F) Λ₀ .tc) α} :
    iprop(base V K ∗ owesW c (OS c (k :: l)) ∗ sigTok c k)
      ⊢ iprop((owesW c (OS c l) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) sm u) kt) Q) := by
  refine BIBase.Entails.trans ?_ (wp_sig V K c k l n hn hsm hu)
  unfold base sigTok
  iintro ⟨⟨HR, -⟩, HO, Ht, Hf⟩
  isplitl [HR]; · iexact HR
  isplitl [HO]; · iexact HO
  isplitl [Ht] <;> iassumption

theorem step_copy (k : Fin 10) (l : List (Fin 10)) (n : Dev nD) (hn : n = pr k c)
    {src : Memref sig .tc .vmem S8x1024 .bf16} (hs : src = srcM k) {dst : Memref sig (Dev.tc n : Thread nD τ).2.kind .vmem S8x1024 .bf16} (hd : dst = dstM k)
    {sS sR : SemLoc sig} (hsS : sS = .dma (sndS k)) (hsR : sR = .dma (rcvS k))
    {hsc : dst.view.ref.isScScratch = false} {hsrc : src.view.WordExact} {hdst : dst.view.WordExact}
    {hsem : DmaTarget.Typed .vmem sR (.remote (Dev.tc n : Thread nD τ) dst sS hsc)}
    {Q : α → sProp 𝕄} {kt : PUnit → Prog (TpuEff nD τ sig (Elt F) Λ₀ .tc) α} :
    iprop(base V K ∗ owesW c (OC c (k :: l)) ∗ lent V k c ∗ free k (pr k c) ∗ cpTok c k)
      ⊢ iprop(((owesW c (OC c l) ∗ waitTok c (.snd k)) -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma src (.remote (Dev.tc n : Thread nD τ) dst sS hsc) sR hsrc hdst hsem) kt) Q) := by
  unfold base cpTok waitTok
  iintro ⟨⟨HR, -⟩, HO, Hl, Hf, Ht1, Ht2, Ha⟩ Hk
  iapply (wp_copy V K c k l n hn hs hd hsS hsR) $$ [HR HO Hl Hf Ht1 Ht2]
  · isplitl [HR]; · iexact HR
    isplitl [HO]; · iexact HO
    isplitl [Hl]; · iexact Hl
    isplitl [Hf]; · iexact Hf
    isplitl [Ht1] <;> iassumption
  iintro ⟨Hc, HO⟩
  iapply Hk
  isplitl [HO]; · iexact HO
  isplitl [Hc]; · iexact Hc
  iexact Ha

theorem step_barrier (l : List (Fin 10)) {sm : Sem sig} (hsm : sm = barS) {u : ℤ} (hu : u = 10) {Q : α → sProp 𝕄} {kt : PUnit → Prog (TpuEff nD τ sig (Elt F) Λ₀ .tc) α} :
    iprop(base V K ∗ owesW c (OC c l) ∗ waitTok c .bar)
      ⊢ iprop(((owesW c (OC c l) ∗ semVal (cell c .bar) 0 ∗ bigSep Finset.univ fun d : Fin 10 => free d (pr d c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait sm u) kt) Q) := by
  refine BIBase.Entails.trans ?_ (wp_barrier V K c l hsm hu)
  unfold base waitTok
  iintro ⟨⟨HR, Hl⟩, HO, Hc, Ha⟩
  isplitl [HR]; · iexact HR
  isplitl [Hl]; · iexact Hl
  isplitl [Hc]; · iexact Hc
  isplitl [HO] <;> iassumption

theorem wait_args (x : Cl) (hx : expOf x = N) (O : CellTallies nD τ sig Unit) :
    (iprop(base V K ∗ owesW c O ∗ waitTok c x) : sProp 𝕄)
      ⊢ iprop(records V K ∗ levAts L lv ∗ cred (tallyAt (cell c x) () N) ∗ owesW c O ∗ atPos ER (cell c x) 0 ∅ 0) := by
  unfold base waitTok
  rw [hx]
  iintro ⟨⟨HR, Hl⟩, HO, Hc, Ha⟩
  isplitl [HR]; · iexact HR
  isplitl [Hl]; · iexact Hl
  isplitl [Hc]; · iexact Hc
  isplitl [HO] <;> iassumption

theorem step_recv1 (k : Fin 10) (hk : k.val < 7) (l : List (Fin 10)) (hl : ∀ j ∈ l, 7 ≤ j.val) {sm : DmaSem sig} (hsm : SemLoc.dma sm = csem (.rcv k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(base V K ∗ owesW c (OC c l) ∗ waitTok c (.rcv k))
      ⊢ iprop(((owesW c (OC c l) ∗ semVal (cell c (.rcv k)) 0 ∗ landed V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  (wait_args V K c (.rcv k) rfl _).trans (wp_recv1 V K c k hk l hl hsm hN)
theorem step_recv2 (k : Fin 10) {sm : DmaSem sig} (hsm : SemLoc.dma sm = csem (.rcv k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(base V K ∗ owesW c (OC c []) ∗ waitTok c (.rcv k))
      ⊢ iprop(((owesW c (OC c []) ∗ semVal (cell c (.rcv k)) 0 ∗ landed V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  (wait_args V K c (.rcv k) rfl _).trans (wp_recv2 V K c k hsm hN)
theorem step_sent (k : Fin 10) {sm : DmaSem sig} (hsm : SemLoc.dma sm = csem (.snd k))
    {src dst : Memref sig .tc .vmem S8x1024 .bf16} {hsrc : src.view.WordExact} {hdst : dst.view.WordExact} (hN : dst.view.dmaCredit = N)
    {Q : α → sProp 𝕄} {kt : PUnit → Prog (TpuEff nD τ sig (Elt F) Λ₀ .tc) α} :
    iprop(base V K ∗ owesW c (OC c []) ∗ waitTok c (.snd k))
      ⊢ iprop(((owesW c (OC c []) ∗ semVal (cell c (.snd k)) 0 ∗ lent V k c) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sm src dst hsrc hdst) kt) Q) :=
  (wait_args V K c (.snd k) rfl _).trans (wp_sent V K c k hsm hN)

end Cert.AdaNorm
-- ==== Proof.Body.lean ====
/-
# The body, run

The kernel's body on device `c`, executed effect by effect in program order from the tokens, the slots and the staged
inputs to the staged result, with every cell closed.
-/
module

public import proofs.«01_k».proof.Proof.Steps

@[expose] public section

noncomputable section

namespace Cert.AdaNorm

open Cert.KernelIdeal Cert.KernelIdeal.Gen
open Idealize.ShloMosaic
open Idealize.ShloMosaic.TcCoe
open Idealize.ShloMosaic.Pipeline (Dat Cfg Window BodyObligation cellOf)
open Idealize.ShloMosaic.Transfers (shareDrop shareTok shareTokN)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## Loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- A store of one page into a slot: the slot then holds the page. -/
theorem step_stash {α : Type} {n : ℕ} (M : Memref sig .tc .vmem (Pages n) .bf16) (j : Fin n) {w : (page j).shape.Idx → Elt F .bf16}
    {hx : (M.access (page j)).Stores Finset.univ} {hm : Finset.univ = Finset.univ ∨ ∀ a, (page j).stride a = 1}
    {f : Buf (Elt F) ((slotOf M j).view.loc (c : Thread nD τ))}
    {Q : α → sProp 𝕄} {kt : PUnit → Prog (TpuEff nD τ sig (Elt F) Λ₀ .tc) α} :
    ((slotOf M j).view.loc (c : Thread nD τ) ↦[(slotOf M j).view.set]{fullShare} f)
      ⊢ iprop((owns (c : Thread nD τ) (slotOf M j) fullShare (flat w) -∗ wp frame (wpE (defs₀ (F := F)) 𝒱₀ (c : Thread nD τ) none) Set.univ (kt ⟨⟩) Q)
          -∗ wp frame (wpE (defs₀ (F := F)) 𝒱₀ (c : Thread nD τ) none) Set.univ (.op (.store M (page j) w Finset.univ hx hm) kt) Q) := by
  iintro H Hk
  iapply (wp_store 𝒱₀ (c : Thread nD τ) none Set.univ (m := M) (r := page j) (Mk := Finset.univ) (store_slot M j)) $$ H
  iintro H
  iapply Hk
  iapply (owns_of c (slotOf M j) fullShare (slot_stored M j f w))
  iexact H

/-- A load of a whole array of pages owned at contents `X` reads `X`. -/
theorem step_whole {α : Type} {n : ℕ} (M : Memref sig .tc .vmem (Pages n) .bf16) (r : LoadRect (Pages n)) (q : PosShare TreeShare)
    (X : (Pages n).Idx → Elt F .bf16) (Y : r.shape.Idx → Elt F .bf16)
    (hr : ∀ f, M.view.read (Elt F) f = X → M.view.readAt (Elt F) r f = Y) {hl : M.view.LoadsAt r} {Q : α → sProp 𝕄}
    {kt : (r.shape.Idx → Elt F .bf16) → Prog (TpuEff nD τ sig (Elt F) Λ₀ .tc) α} :
    (owns (c : Thread nD τ) M q X)
      ⊢ iprop((owns (c : Thread nD τ) M q X -∗ wp frame (wpE (defs₀ (F := F)) 𝒱₀ (c : Thread nD τ) none) Set.univ (kt Y) Q)
          -∗ wp frame (wpE (defs₀ (F := F)) 𝒱₀ (c : Thread nD τ) none) Set.univ (.op (.load M r hl) kt) Q) := by
  refine (owns_open c M q).trans ?_
  iintro ⟨%f, %hf, H⟩ Hk
  iapply (wp_load 𝒱₀ (c : Thread nD τ) none Set.univ (m := M) (View.setOn_subset_set _ _)) $$ H
  iintro H
  rw [hr f hf]
  iapply Hk
  iapply (owns_of c M q hf)
  iexact H

theorem read_s1 (X : (Pages 8).Idx → Elt F .bf16) (f : (cc0_scratch0 : Ref sig .tc).ty.Contents (Elt F)) (h : s1M.view.read (Elt F) f = X) :
    s1M.view.readAt (Elt F) (Rect.unit (s := S8x8x1024) ![0, 0, 0] S8x8x1024.size inb_S8x8x1024_S8x8x1024_0_0_0).toLoadRect f = X := by
  exact (Memref.readAt_unit_zero (Elt F) cc0_scratch0 hz3 _ f).trans ((View.read_whole cc0_scratch0 f).symm.trans h)
theorem read_s2 (X : (Pages 4).Idx → Elt F .bf16) (f : (cc0_scratch1 : Ref sig .tc).ty.Contents (Elt F)) (h : s2M.view.read (Elt F) f = X) :
    s2M.view.readAt (Elt F) (Rect.unit (s := S4x8x1024) ![0, 0, 0] S4x8x1024.size inb_S4x8x1024_S4x8x1024_0_0_0).toLoadRect f = X := by
  exact (Memref.readAt_unit_zero (Elt F) cc0_scratch1 hz3 _ f).trans ((View.read_whole cc0_scratch1 f).symm.trans h)

theorem read_x (f : (cc0_stg0_0 : Ref sig .tc).ty.Contents (Elt F)) :
    (Memref.whole cc0_stg0_0 : Memref sig .tc .vmem S4x1024x256 .f32).view.readAt (Elt F) (Rect.unit (s := S4x1024x256) ![0, 0, 0] S4x1024x256.size inb_S4x1024x256_S4x1024x256_0_0_0).toLoadRect f = f :=
  Memref.readAt_unit_zero (Elt F) cc0_stg0_0 hz3 _ f
theorem read_t (f : (cc0_stg1_0 : Ref sig .tc).ty.Contents (Elt F)) :
    (Memref.whole cc0_stg1_0 : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
theorem read_ws (f : (cc0_stg2_0 : Ref sig .tc).ty.Contents (Elt F)) :
    (Memref.whole cc0_stg2_0 : Memref sig .tc .vmem S128x256 .f32).view.readAt (Elt F) (Rect.unit (s := S128x256) ![0, 0] S128x256.size inb_S128x256_S128x256_0_0).toLoadRect f = f :=
  Memref.readAt_unit_zero (Elt F) cc0_stg2_0 hz2 _ f
theorem read_wh (f : (cc0_stg3_0 : Ref sig .tc).ty.Contents (Elt F)) :
    (Memref.whole cc0_stg3_0 : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f
theorem write_out (f w : (cc0_stg4_0 : Ref sig .tc).ty.Contents (Elt F)) :
    ((Memref.whole cc0_stg4_0 : Memref sig .tc .vmem S4x1024x256 .f32).access (Rect.unit (s := S4x1024x256) ![0, 0, 0] S4x1024x256.size inb_S4x1024x256_S4x1024x256_0_0_0) : View sig .tc _ _ _).write (Elt F) f w Finset.univ = w :=
  Memref.write_access_unit_zero_univ (Elt F) cc0_stg4_0 hz3 _ f w

/-! ## The body -/

/-- The whole staging buffer `b` holding `X`. -/
abbrev stg (c : Dev nD) (b : Ref sig .tc) (X : b.ty.Contents (Elt F)) : sProp 𝕄 := (((c : Thread nD τ).loc b) ↦{fullShare} X)

/-- What the body starts from. -/
def bodyPre : sProp 𝕄 :=
  iprop(base (VV m) K ∗ owesW c (O₀ c) ∗ waitTok c .bar
    ∗ (bigSep Finset.univ fun k : Fin 10 => sigTok c k) ∗ (bigSep Finset.univ fun k : Fin 10 => cpTok c k)
    ∗ (bigSep Finset.univ fun k : Fin 10 => waitTok c (.rcv k))
    ∗ (∃ f, (slot1 0).view.loc (c : Thread nD τ) ↦[(slot1 0).view.set]{fullShare} f)
    ∗ (∃ f, (slot2 0).view.loc (c : Thread nD τ) ↦[(slot2 0).view.set]{fullShare} f)
    ∗ stg c cc0_stg0_0 (xAt m c) ∗ stg c cc0_stg1_0 (tAt m c) ∗ stg c cc0_stg2_0 (wsAt m c) ∗ stg c cc0_stg3_0 (whAt m c)
    ∗ ∃ g, stg c cc0_stg4_0 g)

/-- What it ends with. -/
def bodyPost : sProp 𝕄 :=
  iprop(owesW c (OC c []) ∗ semVal (cell c .bar) 0
    ∗ (bigSep Finset.univ fun k : Fin 10 => semVal (cell c (.snd k)) 0) ∗ (bigSep Finset.univ fun k : Fin 10 => semVal (cell c (.rcv k)) 0)
    ∗ owns (c : Thread nD τ) s1M fullShare (stack (X1 m c)) ∗ owns (c : Thread nD τ) s2M fullShare (stack (X2 m c))
    ∗ stg c cc0_stg0_0 (xAt m c) ∗ stg c cc0_stg1_0 (tAt m c) ∗ stg c cc0_stg2_0 (wsAt m c) ∗ stg c cc0_stg3_0 (whAt m c)
    ∗ stg c cc0_stg4_0 (outAt m c))

set_option maxHeartbeats 4000000 in
set_option maxRecDepth 4000 in
/-- The body runs from the one to the other. -/
theorem sound_body (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, semSignalWord, semWaitWord, Prog.lift, Prog.bind_op, Prog.bind_ret, Prog.pure_eq_ret, wp_deviceId]
  unfold bodyPre
  rw [bigSep_fin10 (sigTok c), bigSep_fin10 (cpTok c), bigSep_fin10 fun k => waitTok c (.rcv k)]
  unfold O₀
  iintro ⟨⟨#HB, HO, Hbar, ⟨S0, S1, S2, S3, S4, S5, S6, S7, S8, S9⟩, ⟨C0, C1, C2, C3, C4, C5, C6, C7, C8, C9⟩, ⟨W0, W1, W2, W3, W4, W5, W6, W7, W8, W9⟩, ⟨%f1, H1⟩, ⟨%f2, H2⟩, Hx, Ht, Hws, Hwh, ⟨%g, Hout⟩⟩, Hk⟩
  -- the signals
  iapply (step_sig (VV m) K c 0 [1, 2, 3, 4, 5, 6, 7, 8, 9] _ (dev1_eq c) rfl (by decide)) $$ [HO S0]
  · isplitr; · iexact HB
    isplitl [HO]; · iexact HO
    iexact S0
  iintro HO
  iapply (step_sig (VV m) K c 1 [2, 3, 4, 5, 6, 7, 8, 9] _ (dev2_eq c) rfl (by decide)) $$ [HO S1]
  · isplitr; · iexact HB
    isplitl [HO]; · iexact HO
    iexact S1
  iintro HO
  iapply (step_sig (VV m) K c 2 [3, 4, 5, 6, 7, 8, 9] _ (dev3_eq c) rfl (by decide)) $$ [HO S2]
  · isplitr; · iexact HB
    isplitl [HO]; · iexact HO
    iexact S2
  iintro HO
  iapply (step_sig (VV m) K c 3 [4, 5, 6, 7, 8, 9] _ (dev4_eq c) rfl (by decide)) $$ [HO S3]
  · isplitr; · iexact HB
    isplitl [HO]; · iexact HO
    iexact S3
  iintro HO
  iapply (step_sig (VV m) K c 4 [5, 6, 7, 8, 9] _ (dev5_eq c) rfl (by decide)) $$ [HO S4]
  · isplitr; · iexact HB
    isplitl [HO]; · iexact HO
    iexact S4
  iintro HO
  iapply (step_sig (VV m) K c 5 [6, 7, 8, 9] _ (dev6_eq c) rfl (by decide)) $$ [HO S5]
  · isplitr; · iexact HB
    isplitl [HO]; · iexact HO
    iexact S5
  iintro HO
  iapply (step_sig (VV m) K c 6 [7, 8, 9] _ (dev7_eq c) rfl (by decide)) $$ [HO S6]
  · isplitr; · iexact HB
    isplitl [HO]; · iexact HO
    iexact S6
  iintro HO
  iapply (step_sig (VV m) K c 7 [8, 9] _ (dev8_eq c) rfl (by decide)) $$ [HO S7]
  · isplitr; · iexact HB
    isplitl [HO]; · iexact HO
    iexact S7
  iintro HO
  iapply (step_sig (VV m) K c 8 [9] _ (dev9_eq c) rfl (by decide)) $$ [HO S8]
  · isplitr; · iexact HB
    isplitl [HO]; · iexact HO
    iexact S8
  iintro HO
  iapply (step_sig (VV m) K c 9 [] _ (dev10_eq c) rfl (by decide)) $$ [HO S9]
  · isplitr; · iexact HB
    isplitl [HO]; · iexact HO
    iexact S9
  iintro HO
  -- the block and its page of sums
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := s1M) (load_slot s1M 0)) $$ H1; iintro H1
  iapply (step_stash c s1M 0) $$ H1; iintro H1
  ihave H1 := (lend_plane m c) $$ H1
  rw [bigSep_fin7]
  icases H1 with ⟨H1, L0, L1, L2, L3, L4, L5, L6⟩
  -- the barrier
  iapply (step_barrier (VV m) K c [0, 1, 2, 3, 4, 5, 6, 7, 8, 9] rfl (by decide)) $$ [HO Hbar]
  · isplitr; · iexact HB
    isplitl [HO]; · iexact HO
    iexact Hbar
  rw [bigSep_fin10 fun d => free d (pr d c)]
  iintro ⟨HO, Zb, E0, E1, E2, E3, E4, E5, E6, E7, E8, E9⟩
  -- the plane copies
  iapply (step_copy (VV m) K c 0 [1, 2, 3, 4, 5, 6, 7, 8, 9] _ (dev11_eq c) rfl rfl rfl rfl) $$ [HO L0 E0 C0]
  · isplitr; · iexact HB
    isplitl [HO]; · iexact HO
    isplitl [L0]; · iexact L0
    isplitl [E0]; · iexact E0
    iexact C0
  iintro ⟨HO, D0⟩
  iapply (step_copy (VV m) K c 1 [2, 3, 4, 5, 6, 7, 8, 9] _ (dev12_eq c) rfl rfl rfl rfl) $$ [HO L1 E1 C1]
  · isplitr; · iexact HB
    isplitl [HO]; · iexact HO
    isplitl [L1]; · iexact L1
    isplitl [E1]; · iexact E1
    iexact C1
  iintro ⟨HO, D1⟩
  iapply (step_copy (VV m) K c 2 [3, 4, 5, 6, 7, 8, 9] _ (dev13_eq c) rfl rfl rfl rfl) $$ [HO L2 E2 C2]
  · isplitr; · iexact HB
    isplitl [HO]; · iexact HO
    isplitl [L2]; · iexact L2
    isplitl [E2]; · iexact E2
    iexact C2
  iintro ⟨HO, D2⟩
  iapply (step_copy (VV m) K c 3 [4, 5, 6, 7, 8, 9] _ (dev14_eq c) rfl rfl rfl rfl) $$ [HO L3 E3 C3]
  · isplitr; · iexact HB
    isplitl [HO]; · iexact HO
    isplitl [L3]; · iexact L3
    isplitl [E3]; · iexact E3
    iexact C3
  iintro ⟨HO, D3⟩
  iapply (step_copy (VV m) K c 4 [5, 6, 7, 8, 9] _ (dev15_eq c) rfl rfl rfl rfl) $$ [HO L4 E4 C4]
  · isplitr; · iexact HB
    isplitl [HO]; · iexact HO
    isplitl [L4]; · iexact L4
    isplitl [E4]; · iexact E4
    iexact C4
  iintro ⟨HO, D4⟩
  iapply (step_copy (VV m) K c 5 [6, 7, 8, 9] _ (dev16_eq c) rfl rfl rfl rfl) $$ [HO L5 E5 C5]
  · isplitr; · iexact HB
    isplitl [HO]; · iexact HO
    isplitl [L5]; · iexact L5
    isplitl [E5]; · iexact E5
    iexact C5
  iintro ⟨HO, D5⟩
  iapply (step_copy (VV m) K c 6 [7, 8, 9] _ (dev17_eq c) rfl rfl rfl rfl) $$ [HO L6 E6 C6]
  · isplitr; · iexact HB
    isplitl [HO]; · iexact HO
    isplitl [L6]; · iexact L6
    isplitl [E6]; · iexact E6
    iexact C6
  iintro ⟨HO, D6⟩
  -- the gates
  iapply (wp_load 𝒱₀ (c : Thread nD τ) none Set.univ (m := Memref.whole cc0_stg1_0) (Finset.subset_univ _)) $$ Ht; iintro Ht
  rw [read_t]
  iapply (wp_load 𝒱₀ (c : Thread nD τ) none Set.univ (m := Memref.whole cc0_stg2_0) (Finset.subset_univ _)) $$ Hws; iintro Hws
  rw [read_ws]
  iapply (wp_load 𝒱₀ (c : Thread nD τ) none Set.univ (m := Memref.whole cc0_stg1_0) (Finset.subset_univ _)) $$ Ht; iintro Ht
  rw [read_t]
  iapply (wp_load 𝒱₀ (c : Thread nD τ) none Set.univ (m := Memref.whole cc0_stg3_0) (Finset.subset_univ _)) $$ Hwh; iintro Hwh
  rw [read_wh]
  -- the plane's pages in
  iapply (step_recv1 (VV m) K c 0 (by decide) [7, 8, 9] (by decide) rfl rfl (src := slot1 0) (dst := slot1 1)) $$ [HO W0]
  · isplitr; · iexact HB
    isplitl [HO]; · iexact HO
    iexact W0
  iintro ⟨HO, R0, G0⟩
  iapply (step_recv1 (VV m) K c 1 (by decide) [7, 8, 9] (by decide) rfl rfl (src := slot1 0) (dst := slot1 2)) $$ [HO W1]
  · isplitr; · iexact HB
    isplitl [HO]; · iexact HO
    iexact W1
  iintro ⟨HO, R1, G1⟩
  iapply (step_recv1 (VV m) K c 2 (by decide) [7, 8, 9] (by decide) rfl rfl (src := slot1 0) (dst := slot1 3)) $$ [HO W2]
  · isplitr; · iexact HB
    isplitl [HO]; · iexact HO
    iexact W2
  iintro ⟨HO, R2, G2⟩
  iapply (step_recv1 (VV m) K c 3 (by decide) [7, 8, 9] (by decide) rfl rfl (src := slot1 0) (dst := slot1 4)) $$ [HO W3]
  · isplitr; · iexact HB
    isplitl [HO]; · iexact HO
    iexact W3
  iintro ⟨HO, R3, G3⟩
  iapply (step_recv1 (VV m) K c 4 (by decide) [7, 8, 9] (by decide) rfl rfl (src := slot1 0) (dst := slot1 5)) $$ [HO W4]
  · isplitr; · iexact HB
    isplitl [HO]; · iexact HO
    iexact W4
  iintro ⟨HO, R4, G4⟩
  iapply (step_recv1 (VV m) K c 5 (by decide) [7, 8, 9] (by decide) rfl rfl (src := slot1 0) (dst := slot1 6)) $$ [HO W5]
  · isplitr; · iexact HB
    isplitl [HO]; · iexact HO
    iexact W5
  iintro ⟨HO, R5, G5⟩
  iapply (step_recv1 (VV m) K c 6 (by decide) [7, 8, 9] (by decide) rfl rfl (src := slot1 0) (dst := slot1 7)) $$ [HO W6]
  · isplitr; · iexact HB
    isplitl [HO]; · iexact HO
    iexact W6
  iintro ⟨HO, R6, G6⟩
  ihave HW := (whole_plane m c) $$ [H1 G0 G1 G2 G3 G4 G5 G6]
  · rw [bigSep_fin7]
    isplitl [H1]; · iexact H1
    isplitl [G0]; · iexact G0
    isplitl [G1]; · iexact G1
    isplitl [G2]; · iexact G2
    isplitl [G3]; · iexact G3
    isplitl [G4]; · iexact G4
    isplitl [G5]; · iexact G5
    iexact G6
  icases HW with ⟨HW1, T1⟩
  iapply (step_whole c s1M _ (shareDrop fullShare 7) (stack (X1 m c)) (stack (X1 m c)) (read_s1 _)) $$ HW1; iintro HW1
  iapply (wp_load 𝒱₀ (c : Thread nD τ) none Set.univ (m := s2M) (load_slot s2M 0)) $$ H2; iintro H2
  iapply (step_stash c s2M 0) $$ H2; iintro H2
  ihave H2 := (lend_cross m c) $$ H2
  rw [bigSep_fin3]
  icases H2 with ⟨H2, L7, L8, L9⟩
  -- the cross-plane copies
  iapply (step_copy (VV m) K c 7 [8, 9] _ (dev18_eq c) rfl rfl rfl rfl) $$ [HO L7 E7 C7]
  · isplitr; · iexact HB
    isplitl [HO]; · iexact HO
    isplitl [L7]; · iexact L7
    isplitl [E7]; · iexact E7
    iexact C7
  iintro ⟨HO, D7⟩
  iapply (step_copy (VV m) K c 8 [9] _ (dev19_eq c) rfl rfl rfl rfl) $$ [HO L8 E8 C8]
  · isplitr; · iexact HB
    isplitl [HO]; · iexact HO
    isplitl [L8]; · iexact L8
    isplitl [E8]; · iexact E8
    iexact C8
  iintro ⟨HO, D8⟩
  iapply (step_copy (VV m) K c 9 [] _ (dev20_eq c) rfl rfl rfl rfl) $$ [HO L9 E9 C9]
  · isplitr; · iexact HB
    isplitl [HO]; · iexact HO
    isplitl [L9]; · iexact L9
    isplitl [E9]; · iexact E9
    iexact C9
  iintro ⟨HO, D9⟩
  iapply (step_recv2 (VV m) K c 7 rfl rfl (src := slot2 0) (dst := slot2 1)) $$ [HO W7]
  · isplitr; · iexact HB
    isplitl [HO]; · iexact HO
    iexact W7
  iintro ⟨HO, R7, G7⟩
  iapply (step_recv2 (VV m) K c 8 rfl rfl (src := slot2 0) (dst := slot2 2)) $$ [HO W8]
  · isplitr; · iexact HB
    isplitl [HO]; · iexact HO
    iexact W8
  iintro ⟨HO, R8, G8⟩
  iapply (step_recv2 (VV m) K c 9 rfl rfl (src := slot2 0) (dst := slot2 3)) $$ [HO W9]
  · isplitr; · iexact HB
    isplitl [HO]; · iexact HO
    iexact W9
  iintro ⟨HO, R9, G9⟩
  ihave HW := (whole_cross m c) $$ [H2 G7 G8 G9]
  · rw [bigSep_fin3]
    isplitl [H2]; · iexact H2
    isplitl [G7]; · iexact G7
    isplitl [G8]; · iexact G8
    iexact G9
  icases HW with ⟨HW2, T2⟩
  iapply (step_whole c s2M _ (shareDrop fullShare 3) (stack (X2 m c)) (stack (X2 m c)) (read_s2 _)) $$ HW2; iintro HW2
  -- the result
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S4x1024x256) ![0, 0, 0] S4x1024x256.size inb_S4x1024x256_S4x1024x256_0_0_0) (Mk := Finset.univ) (Finset.subset_univ _)) $$ Hout; iintro Hout
  rw [write_out]
  -- the sends done
  iapply (step_sent (VV m) K c 0 rfl rfl (src := slot1 1) (dst := slot1 0)) $$ [HO D0]
  · isplitr; · iexact HB
    isplitl [HO]; · iexact HO
    iexact D0
  iintro ⟨HO, Q0, L0⟩
  iapply (step_sent (VV m) K c 1 rfl rfl (src := slot1 2) (dst := slot1 0)) $$ [HO D1]
  · isplitr; · iexact HB
    isplitl [HO]; · iexact HO
    iexact D1
  iintro ⟨HO, Q1, L1⟩
  iapply (step_sent (VV m) K c 2 rfl rfl (src := slot1 3) (dst := slot1 0)) $$ [HO D2]
  · isplitr; · iexact HB
    isplitl [HO]; · iexact HO
    iexact D2
  iintro ⟨HO, Q2, L2⟩
  iapply (step_sent (VV m) K c 3 rfl rfl (src := slot1 4) (dst := slot1 0)) $$ [HO D3]
  · isplitr; · iexact HB
    isplitl [HO]; · iexact HO
    iexact D3
  iintro ⟨HO, Q3, L3⟩
  iapply (step_sent (VV m) K c 4 rfl rfl (src := slot1 5) (dst := slot1 0)) $$ [HO D4]
  · isplitr; · iexact HB
    isplitl [HO]; · iexact HO
    iexact D4
  iintro ⟨HO, Q4, L4⟩
  iapply (step_sent (VV m) K c 5 rfl rfl (src := slot1 6) (dst := slot1 0)) $$ [HO D5]
  · isplitr; · iexact HB
    isplitl [HO]; · iexact HO
    iexact D5
  iintro ⟨HO, Q5, L5⟩
  iapply (step_sent (VV m) K c 6 rfl rfl (src := slot1 7) (dst := slot1 0)) $$ [HO D6]
  · isplitr; · iexact HB
    isplitl [HO]; · iexact HO
    iexact D6
  iintro ⟨HO, Q6, L6⟩
  iapply (step_sent (VV m) K c 7 rfl rfl (src := slot2 1) (dst := slot2 0)) $$ [HO D7]
  · isplitr; · iexact HB
    isplitl [HO]; · iexact HO
    iexact D7
  iintro ⟨HO, Q7, L7⟩
  iapply (step_sent (VV m) K c 8 rfl rfl (src := slot2 2) (dst := slot2 0)) $$ [HO D8]
  · isplitr; · iexact HB
    isplitl [HO]; · iexact HO
    iexact D8
  iintro ⟨HO, Q8, L8⟩
  iapply (step_sent (VV m) K c 9 rfl rfl (src := slot2 3) (dst := slot2 0)) $$ [HO D9]
  · isplitr; · iexact HB
    isplitl [HO]; · iexact HO
    iexact D9
  iintro ⟨HO, Q9, L9⟩
  rw [wp_ret]; imodintro
  iapply Hk
  unfold bodyPost
  rw [bigSep_fin10 fun k => semVal (cell c (.snd k)) 0, bigSep_fin10 fun k => semVal (cell c (.rcv k)) 0]
  isplitl [HO]; · iexact HO
  isplitl [Zb]; · iexact Zb
  isplitl [Q0 Q1 Q2 Q3 Q4 Q5 Q6 Q7 Q8 Q9]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    iexact Q9
  isplitl [R0 R1 R2 R3 R4 R5 R6 R7 R8 R9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [HW1 T1 L0 L1 L2 L3 L4 L5 L6]
  · iapply (back_plane m c)
    isplitl [HW1 T1]
    · isplitl [HW1] <;> iassumption
    rw [bigSep_fin7]
    isplitl [L0]; · iexact L0
    isplitl [L1]; · iexact L1
    isplitl [L2]; · iexact L2
    isplitl [L3]; · iexact L3
    isplitl [L4]; · iexact L4
    isplitl [L5]; · iexact L5
    iexact L6
  isplitl [HW2 T2 L7 L8 L9]
  · iapply (back_cross m c)
    isplitl [HW2 T2]
    · isplitl [HW2] <;> iassumption
    rw [bigSep_fin3]
    isplitl [L7]; · iexact L7
    isplitl [L8]; · iexact L8
    iexact L9
  isplitl [Hx]; · iexact Hx
  isplitl [Ht]; · iexact Ht
  isplitl [Hws]; · iexact Hws
  isplitl [Hwh]; · iexact Hwh
  iexact Hout

end Cert.AdaNorm
-- ==== Proof.Data.lean ====
/-
# The pipeline's proof data

What each device holds before and after the one grid point, and that the body takes it from the one to the other.
-/
module

public import proofs.«01_k».proof.Proof.Body
public import proofs.«01_k».proof.Proof.Gen.KernelIdeal.Points

@[expose] public section

noncomputable section

namespace Cert.AdaNorm

open Cert.KernelIdeal Cert.KernelIdeal.Gen
open Idealize.ShloMosaic
open Idealize.ShloMosaic.TcCoe
open Idealize.ShloMosaic.Pipeline (Dat Cfg Window BodyObligation cellOf)
open Idealize.ShloMosaic.Transfers (shareDrop shareTok shareTokN)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A product over the cells of a device. -/
theorem bigSep_Cl (Φ : Cl → sProp 𝕄) :
    bigSep Finset.univ Φ = iprop(Φ .bar ∗ (bigSep Finset.univ fun k : Fin 10 => Φ (.snd k)) ∗ bigSep Finset.univ fun k : Fin 10 => Φ (.rcv k)) := by
  rw [bigSep_univ_equiv clE, bigSep_univ_sum, bigSep_univ_sum, bigSep_univ_eq_bigSepL [()] (by decide) (by decide)]
  rfl

/-- The counters of the semaphores no copy uses. -/
def idle (c : Dev nD) : sProp 𝕄 := bigSep Finset.univ fun j : Fin 4 => semVal ((c : Thread nD τ), SemLoc.dma (idleS j)) 0

/-- The duties device `c` pays. -/
def payToks (c : Dev nD) : sProp 𝕄 :=
  iprop((bigSep Finset.univ fun k : Fin 10 => dutyTok ER (cell (pr k c) .bar) 0 (opp k))
    ∗ (bigSep Finset.univ fun k : Fin 10 => dutyTok ER (cell c (.snd k)) 0 0)
    ∗ bigSep Finset.univ fun k : Fin 10 => dutyTok ER (cell (pr k c) (.rcv k)) 0 0)

/-- What device `c` alone holds: its positions, the duties it pays, the unused counters. -/
def linear (c : Dev nD) : sProp 𝕄 :=
  iprop((bigSep Finset.univ fun x : Cl => atPos ER (cell c x) 0 ∅ 0) ∗ payToks c ∗ idle c)

/-- What device `c`'s body starts from, apart from its scratch. -/
def start (c : Dev nD) : sProp 𝕄 :=
  iprop((∃ K, records (VV m) K ∗ linear c) ∗ cred (tallyAt (cell c .bar) () 10)
    ∗ (bigSep Finset.univ fun k : Fin 10 => cred (tallyAt (cell c (.rcv k)) () N)) ∗ levAts L lv)

/-- The two scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 :=
  iprop(scratch c ∗ (bigSep Finset.univ fun x : Cl => semVal (cell c x) 0) ∗ idle c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => tAt m c
    | ⟨2, _⟩ => wsAt m c
    | ⟨3, _⟩ => whAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The tokens and slots the body starts from, bundled copy by copy. -/
theorem tokens_in (K : Dev nD × Cl → ℕ) (c : Dev nD) :
    (iprop(linear c ∗ cred (tallyAt (cell c .bar) () 10)
        ∗ (bigSep Finset.univ fun k : Fin 10 => cred (tallyAt (cell c (.rcv k)) () N)) ∗ bigSep Finset.univ fun d : Fin 10 => free d c) : sProp 𝕄)
      ⊢ iprop(idle c ∗ waitTok c .bar ∗ (bigSep Finset.univ fun k : Fin 10 => sigTok c k) ∗ (bigSep Finset.univ fun k : Fin 10 => cpTok c k)
          ∗ bigSep Finset.univ fun k : Fin 10 => waitTok c (.rcv k)) := by
  unfold linear payToks sigTok cpTok waitTok
  rw [bigSep_Cl, bigSep_sep', bigSep_sep', bigSep_sep', bigSep_sep', bigSep_univ_equiv oppE (fun d : Fin 10 => free d c)]
  iintro ⟨⟨⟨Hb, Hs, Hr⟩, ⟨T1, T2, T3⟩, Hi⟩, Cb, Cr, Hf⟩
  isplitl [Hi]; · iexact Hi
  isplitl [Hb Cb]
  · isplitl [Cb]; · iexact Cb
    iexact Hb
  isplitl [T1 Hf]
  · isplitl [T1]; · iexact T1
    iexact Hf
  isplitl [T2 T3 Hs]
  · isplitl [T2]; · iexact T2
    isplitl [T3]; · iexact T3
    iexact Hs
  isplitl [Cr]; · iexact Cr
  iexact Hr

theorem scratch_back (c : Dev nD) (X : (Pages 8).Idx → Elt F .bf16) (Y : (Pages 4).Idx → Elt F .bf16) :
    iprop(owns (c : Thread nD τ) s1M fullShare X ∗ owns (c : Thread nD τ) s2M fullShare Y) ⊢ (scratch c : sProp 𝕄) := by
  unfold scratch owns
  rw [show (s1M : Memref sig .tc .vmem (Pages 8) .bf16).view.set = Finset.univ from View.set_whole _,
    show (s2M : Memref sig .tc .vmem (Pages 4) .bf16).view.set = Finset.univ from View.set_whole _]
  iintro ⟨⟨%f, -, H⟩, ⟨%g, -, H'⟩⟩
  isplitl [H]
  · iexists f; iexact H
  · iexists g; iexact H'

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer as the pipeline states it. -/
abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stgE_intro (c : Dev nD) (b : Ref sig .tc) (X : b.ty.Contents (Elt F)) : (stg c b X : sProp 𝕄) ⊢ stgE c b X := by
  iintro H
  iexists X
  isplitr
  · ipureintro; rfl
  · iexact H

/-- The body obligation's two sides, the windows one by one. -/
def obPre (c : Dev nD) : sProp 𝕄 :=
  iprop(Φ₀ m c ∗ (dats m ρ 0 c).owesAt () t0_0.castSucc
    ∗ (∃ d, stgE c cc0_stg0_0 ((dats m ρ 0 c).before (0 : Fin 5) t0_0 d))
    ∗ (∃ d, stgE c cc0_stg1_0 ((dats m ρ 0 c).before (1 : Fin 5) t0_0 d))
    ∗ (∃ d, stgE c cc0_stg2_0 ((dats m ρ 0 c).before (2 : Fin 5) t0_0 d))
    ∗ (∃ d, stgE c cc0_stg3_0 ((dats m ρ 0 c).before (3 : Fin 5) t0_0 d))
    ∗ (∃ d, stgE c cc0_stg4_0 ((dats m ρ 0 c).before (4 : Fin 5) t0_0 d)))
def obPost (c : Dev nD) : sProp 𝕄 :=
  iprop(Φ₁ c ∗ (dats m ρ 0 c).owesAt () t0_0.succ
    ∗ stgE c cc0_stg0_0 (xAt m c) ∗ stgE c cc0_stg1_0 (tAt m c) ∗ stgE c cc0_stg2_0 (wsAt m c) ∗ stgE c cc0_stg3_0 (whAt m c)
    ∗ stgE c cc0_stg4_0 (outAt m c))

theorem before0 (c : Dev nD) (d) : (dats m ρ 0 c).before (0 : Fin 5) t0_0 d = xAt m c := by unfold Dat.before; rw [if_pos (fetch0_0 t0_0)]; rfl
theorem before1 (c : Dev nD) (d) : (dats m ρ 0 c).before (1 : Fin 5) t0_0 d = tAt m c := by unfold Dat.before; rw [if_pos (fetch0_1 t0_0)]; rfl
theorem before2 (c : Dev nD) (d) : (dats m ρ 0 c).before (2 : Fin 5) t0_0 d = wsAt m c := by unfold Dat.before; rw [if_pos (fetch0_2 t0_0)]; rfl
theorem before3 (c : Dev nD) (d) : (dats m ρ 0 c).before (3 : Fin 5) t0_0 d = whAt m c := by unfold Dat.before; rw [if_pos (fetch0_3 t0_0)]; rfl

theorem pre_in (c : Dev nD) : obPre m ρ c ⊢ iprop(∃ K, bodyPre m K c ∗ idle c) := by
  unfold obPre Φ₀ start scratch bodyPre base
  iintro ⟨⟨⟨⟨%K, HR, Hl⟩, Cb, Cr, Hlev⟩, ⟨%f1, H1⟩, ⟨%f2, H2⟩⟩, Ho, ⟨%d0, %g0, %hg0, Hx⟩, ⟨%d1, %g1, %hg1, Ht⟩, ⟨%d2, %g2, %hg2, Hs⟩, ⟨%d3, %g3, %hg3, Hh⟩, ⟨%d4, %g4, %hg4, Hout⟩⟩
  obtain rfl : g0 = xAt m c := hg0.trans (before0 m ρ c d0)
  obtain rfl : g1 = tAt m c := hg1.trans (before1 m ρ c d1)
  obtain rfl : g2 = wsAt m c := hg2.trans (before2 m ρ c d2)
  obtain rfl : g3 = whAt m c := hg3.trans (before3 m ρ c d3)
  ihave Hscr := (scratch_split c f1 f2) $$ [H1 H2]
  · isplitl [H1] <;> iassumption
  icases Hscr with ⟨H1, H2, Hf⟩
  ihave HT := (tokens_in K c) $$ [Hl Cb Cr Hf]
  · isplitl [Hl]; · iexact Hl
    isplitl [Cb]; · iexact Cb
    isplitl [Cr] <;> iassumption
  icases HT with ⟨Hi, Wb, HS, HC, HW⟩
  iexists K
  isplitr [Hi]
  · isplitl [HR Hlev]
    · isplitl [HR] <;> iassumption
    isplitl [Ho]
    · unfold Dat.owesAt Pipeline.owesWithin owesW
      icases Ho with ⟨%W, -, HO⟩
      iexists W
      iexact HO
    isplitl [Wb]; · iexact Wb
    isplitl [HS]; · iexact HS
    isplitl [HC]; · iexact HC
    isplitl [HW]; · iexact HW
    isplitl [H1]; · iexists f1; iexact H1
    isplitl [H2]; · iexists f2; iexact H2
    isplitl [Hx]; · iexact Hx
    isplitl [Ht]; · iexact Ht
    isplitl [Hs]; · iexact Hs
    isplitl [Hh]; · iexact Hh
    iexists g4; iexact Hout
  · iexact Hi

theorem post_out (c : Dev nD) : iprop(bodyPost m c ∗ idle c) ⊢ obPost m ρ c := by
  unfold obPost bodyPost Φ₁
  rw [bigSep_Cl]
  iintro ⟨⟨HO, Zb, Zs, Zr, H1, H2, Hx, Ht, Hs, Hh, Hout⟩, Hi⟩
  isplitl [Zb Zs Zr H1 H2 Hi]
  · isplitl [H1 H2]
    · iapply (scratch_back c (stack (X1 m c)) (stack (X2 m c)))
      isplitl [H1] <;> iassumption
    isplitl [Zb Zs Zr]
    · isplitl [Zb]; · iexact Zb
      isplitl [Zs] <;> iassumption
    iexact Hi
  isplitl [HO]
  · unfold Dat.owesAt Pipeline.owesWithin owesW
    icases HO with ⟨%W, HO⟩
    iexists W
    isplitr; · ipureintro; exact fun _ _ => Or.inl trivial
    iexact HO
  isplitl [Hx]; · iapply (stgE_intro c cc0_stg0_0 (xAt m c)); iexact Hx
  isplitl [Ht]; · iapply (stgE_intro c cc0_stg1_0 (tAt m c)); iexact Ht
  isplitl [Hs]; · iapply (stgE_intro c cc0_stg2_0 (wsAt m c)); iexact Hs
  isplitl [Hh]; · iapply (stgE_intro c cc0_stg3_0 (whAt m c)); iexact Hh
  iapply (stgE_intro c cc0_stg4_0 (outAt m c)); iexact Hout

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show obPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3 cc0_scratch4 cc0_scratch5) (fun _ => obPost m ρ c)
  refine (pre_in m ρ c).trans ?_
  iintro ⟨%K, HP, Hi⟩
  iapply (sound_body m K c fun _ => obPost m ρ c)
  isplitl [HP]; · iexact HP
  iintro H
  iapply (post_out m ρ c)
  isplitl [H] <;> iassumption

end Cert.AdaNorm
-- ==== Proof.Launch.lean ====
/-
# The launch

The cells' ghost state is minted once for all devices and dealt out: each device gets the duties it pays, wherever the
cell they belong to is. Then the run of the whole mesh: every device's arrays end at the computed contents, with every
semaphore counter zero.
-/
module

public import proofs.«01_k».proof.Proof.Data
public import Idealize.ShloMosaic.Lib.Pipeline.CollectiveSegs

@[expose] public section

noncomputable section

namespace Cert.AdaNorm

open Cert.KernelIdeal Cert.KernelIdeal.Gen
open Idealize.ShloMosaic
open Idealize.ShloMosaic.TcCoe
open Idealize.ShloMosaic.Pipeline (Dat Cfg Window BodyObligation cellOf)
open Idealize.ShloMosaic.Transfers (shareDrop shareTok shareTokN)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the copies' and the unused ones. -/
abbrev osem : (Fin 10 ⊕ Fin 10) ⊕ Fin 4 → SemLoc sig :=
  Sum.elim (Sum.elim (fun k => .dma (sndS k)) (fun k => .dma (rcvS k))) (fun j => .dma (idleS j))

set_option maxRecDepth 8000 in
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(((bigSep Finset.univ fun k : Fin 10 => semVal (cell c (.snd k)) 0) ∗ (bigSep Finset.univ fun k : Fin 10 => semVal (cell c (.rcv k)) 0)) ∗ idle c) := by
  unfold Pipeline.ownSems0
  rw [bigSep_univ_sum, bigSep_univ_sum]
  rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- A device's semaphores at zero are its cells' and the unused ones. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun x : Cl => semVal (cell c x) 0) ∗ idle c) : sProp 𝕄) := by
  rw [ownSems0_eq, unscopedSems0_eq, bigSep_Cl]
  iintro ⟨⟨⟨HS, HV⟩, Hi⟩, HB⟩
  isplitr [Hi]
  · isplitl [HB]; · iexact HB
    isplitl [HS] <;> iassumption
  · iexact Hi

/-! ## The ghost state at launch -/

theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]
def allCells : Finset (GSem nD τ sig) := Finset.univ.map ⟨kcell, kcell_injective⟩

/-- The three duties a copy's index names on a device: of its barrier, of its send cell, of its receive cell. -/
def dutyOf (j : Fin 10 × Fin 3) : Cl × Fin 10 := match j.2 with
  | 0 => (.bar, j.1) | 1 => (.snd j.1, 0) | 2 => (.rcv j.1, 0)
theorem dutyOf_injective : Function.Injective dutyOf := by
  rintro ⟨a, b⟩ ⟨a', b'⟩ h
  unfold dutyOf at h
  fin_cases b <;> fin_cases b' <;> simp at h <;> subst h <;> rfl
abbrev tokOf (cj : Dev nD × (Fin 10 × Fin 3)) : GSem nD τ sig × ℕ × Fin 10 := (cell cj.1 (dutyOf cj.2).1, 0, (dutyOf cj.2).2)
theorem tokOf_injective : Function.Injective tokOf := by
  rintro ⟨c, j⟩ ⟨c', j'⟩ h
  have h0 : kcell (c, (dutyOf j).1) = kcell (c', (dutyOf j').1) := congrArg Prod.fst h
  have h2 : (dutyOf j).2 = (dutyOf j').2 := congrArg (fun x => x.2.2) h
  have h1 := kcell_injective h0
  rw [Prod.mk.injEq] at h1
  rw [h1.1, dutyOf_injective (Prod.ext h1.2 h2)]
def allToks : Finset (GSem nD τ sig × ℕ × Fin 10) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  bigSep Finset.univ fun k : Fin 10 => bigSep Finset.univ fun i : Fin 3 => dutyTok ER (cell c (dutyOf (k, i)).1) 0 (dutyOf (k, i)).2

/-- What the launch deals device `c`, -/
def G (c : Dev nD) : sProp 𝕄 :=
  iprop((bigSep Finset.univ fun x : Cl => roundState ER (Rd (VV m)) (cell c x) 0)
    ∗ (bigSep Finset.univ fun x : Cl => iprop(atPos ER (cell c x) 0 ∅ 0 ∗ reached ER (cell c x) 0)) ∗ toks c)
/-- and what the global step makes of it. -/
def G' (c : Dev nD) : sProp 𝕄 := iprop(∃ K, records (VV m) K ∗ linear c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cl => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]
    exact bigSep_congr fun c _ => by rw [bigSep_univ_prod]; rfl
  iintro HX
  imod (Rounds.fund ER (Rd (VV m)) allCells allToks) $$ HX with ⟨Hst, Hr, Hat, Htok⟩
  imodintro
  ihave Hst' := (Entails.of_eq (hX fun g => roundState ER (Rd (VV m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- On one device: its cells' invariants established. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cl => iprop(∃ κ : ℕ, cellInv ER (Rd (VV m)) κ (cell c x)))
          ∗ (bigSep Finset.univ fun x : Cl => iprop(atPos ER (cell c x) 0 ∅ 0 ∗ reached ER (cell c x) 0)) ∗ toks c ∗ idle c) := by
  unfold G
  iintro ⟨Hos, Hus, Hst, Hat, Htok⟩
  ihave Hv := (sems0_split (F := F) c) $$ [Hos Hus]
  · isplitl [Hos] <;> iassumption
  icases Hv with ⟨Hv, Hi⟩
  imod (show iprop((bigSep Finset.univ fun x : Cl => semVal (cell c x) 0) ∗ bigSep Finset.univ fun x : Cl => roundState ER (Rd (VV m)) (cell c x) 0)
      ⊢ (|={Set.univ}=> bigSep Finset.univ fun x : Cl => iprop(∃ κ : ℕ, cellInv ER (Rd (VV m)) κ (cell c x)) : sProp 𝕄) from by
        rw [← bigSep_sep']
        exact (bigSep_mono fun x _ => (Rounds.body_intro ER (Rd (VV m)) (cell c x)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Tokens indexed by device and copy, re-indexed by the device at the other end. -/
theorem around (Φ : Dev nD → Fin 10 → sProp 𝕄) :
    (bigSep Finset.univ fun c : Dev nD => bigSep Finset.univ fun k : Fin 10 => Φ c k)
      = bigSep Finset.univ fun c : Dev nD => bigSep Finset.univ fun k : Fin 10 => Φ (pr k c) k := by
  rw [bigSep_univ_comm, bigSep_univ_comm (fun (c : Dev nD) (k : Fin 10) => Φ (pr k c) k)]
  exact bigSep_congr fun k _ => bigSep_univ_equiv (prE k) fun c => Φ c k

/-- Every duty goes to the device that pays it. -/
theorem toks_around : (bigSep Finset.univ fun c : Dev nD => (toks c : sProp 𝕄)) ⊢ bigSep Finset.univ fun c : Dev nD => payToks c := by
  have hb : (bigSep Finset.univ fun c : Dev nD => bigSep Finset.univ fun k : Fin 10 => (dutyTok ER (cell c .bar) 0 k : sProp 𝕄))
      = bigSep Finset.univ fun c : Dev nD => bigSep Finset.univ fun k : Fin 10 => dutyTok ER (cell (pr k c) .bar) 0 (opp k) := by
    rw [← around fun c k => dutyTok ER (cell c .bar) 0 (opp k)]
    exact bigSep_congr fun c _ => bigSep_univ_equiv oppE fun k => dutyTok ER (cell c .bar) 0 k
  have h (c : Dev nD) : (toks c : sProp 𝕄)
      = iprop((bigSep Finset.univ fun k : Fin 10 => dutyTok ER (cell c .bar) 0 k) ∗ (bigSep Finset.univ fun k : Fin 10 => dutyTok ER (cell c (.snd k)) 0 0)
          ∗ bigSep Finset.univ fun k : Fin 10 => dutyTok ER (cell c (.rcv k)) 0 0) := by
    unfold toks
    simp only [bigSep_fin3]
    rw [bigSep_sep', bigSep_sep']
    rfl
  unfold payToks
  rw [bigSep_congr fun c _ => h c, bigSep_sep', bigSep_sep', bigSep_sep', bigSep_sep', hb, around fun c k => dutyTok ER (cell c (.rcv k)) 0 0]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cl => iprop(∃ κ : ℕ, cellInv ER (Rd (VV m)) κ (cell c x)))
          ∗ (bigSep Finset.univ fun x : Cl => iprop(atPos ER (cell c x) 0 ∅ 0 ∗ reached ER (cell c x) 0)) ∗ toks c ∗ idle c) : sProp 𝕄)
      ⊢ bigSep Finset.univ (G' m) := by
  rw [bigSep_sep', bigSep_sep', bigSep_sep', ← bigSep_univ_prod (fun cx : Dev nD × Cl => iprop(∃ κ : ℕ, cellInv ER (Rd (VV m)) κ (kcell cx))),
    bigSep_congr (s := Finset.univ) (fun (c : Dev nD) _ => bigSep_sep' Finset.univ (fun x : Cl => (atPos ER (cell c x) 0 ∅ 0 : sProp 𝕄)) (fun x => reached ER (cell c x) 0)),
    bigSep_sep', ← bigSep_univ_prod (fun cx : Dev nD × Cl => (reached ER (kcell cx) 0 : sProp 𝕄))]
  iintro ⟨HI, ⟨Hat, #HR⟩, Htok, Hi⟩
  ihave HK := (BI.bigSep_exists_pi Finset.univ (fun (cx : Dev nD × Cl) (κ : ℕ) => (cellInv ER (Rd (VV m)) κ (kcell cx) : sProp 𝕄))) $$ HI
  icases HK with ⟨%K, #HI⟩
  ihave Htk := (toks_around (F := F)) $$ Htok
  iapply (bigSep_with_persistent (R := records (VV m) K) (Φ := linear) (Ψ := G' m) fun c _ => by
    unfold G'
    iintro ⟨HR, Hl⟩
    iexists K
    isplitl [HR] <;> iassumption)
  isplitr
  · unfold records; isplitl; · iexact HI
    iexact HR
  · unfold linear
    rw [bigSep_sep', bigSep_sep']
    isplitl [Hat]; · iexact Hat
    isplitl [Htk] <;> iassumption

/-- The global step: every device's semaphores and dealt ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_eq_iff {a b : Dev nD} {x y : Cl} : cell a x = cell b y ↔ a = b ∧ x = y :=
  ⟨fun h => Prod.mk.injEq _ _ _ _ ▸ kcell_injective (a₁ := (a, x)) (a₂ := (b, y)) h, fun ⟨h1, h2⟩ => by rw [h1, h2]⟩

/-- Credits owed in a list of copies, one cell at a time. -/
theorem OC_apply (d c : Dev nD) (x : Cl) (l : List (Fin 10)) :
    OC d l (cell c x) () = (l.map fun k => if c = pr k d ∧ x = .rcv k then N else 0).sum := by
  induction l with
  | nil => rfl
  | cons k t ih =>
    unfold OC
    rw [Pi.add_apply, Finsupp.add_apply, tallyAt_apply, ih, List.map_cons, List.sum_cons, Nat.add_comm]
    congr 1
    simp only [cell_eq_iff, and_true]
theorem OS_apply (d c : Dev nD) (x : Cl) (l : List (Fin 10)) :
    OS d l (cell c x) () = (l.map fun k => if c = pr k d ∧ x = .bar then 1 else 0).sum + OC d [0, 1, 2, 3, 4, 5, 6, 7, 8, 9] (cell c x) () := by
  induction l with
  | nil => simp [OS]
  | cons k t ih =>
    conv_lhs => unfold OS
    rw [Pi.add_apply, Finsupp.add_apply, tallyAt_apply, ih, List.map_cons, List.sum_cons]
    simp only [cell_eq_iff, and_true]
    omega

/-- A sum over the copies in order is the sum over all copies. -/
theorem sum_all (f : Fin 10 → ℕ) : (([0, 1, 2, 3, 4, 5, 6, 7, 8, 9] : List (Fin 10)).map f).sum = ∑ k, f k := by
  rw [← List.sum_toFinset f (by decide)]
  exact Finset.sum_congr (by decide) fun _ _ => rfl

/-- Exactly one device has `c` as its peer `k`. -/
theorem sum_peer (k : Fin 10) (c : Dev nD) (n : ℕ) : (∑ d : Dev nD, if c = pr k d then n else 0) = n := by
  rw [Finset.sum_eq_single (pr (opp k) c), if_pos (pr_opp' k c).symm]
  · intro d _ hd
    exact if_neg fun h => hd (by rw [h, pr_opp])
  · intro h; exact absurd (Finset.mem_univ _) h

theorem owed_bar (c : Dev nD) : (∑ d : Dev nD, O₀ d (cell c .bar) ()) = 10 := by
  have h (d : Dev nD) : O₀ d (cell c .bar) () = ∑ k : Fin 10, if c = pr k d then 1 else 0 := by
    unfold O₀
    rw [OS_apply, OC_apply, sum_all, sum_all]
    simp
  rw [Finset.sum_congr rfl fun d _ => h d, Finset.sum_comm, Finset.sum_congr rfl fun k _ => sum_peer k c 1]
  rfl
theorem owed_rcv (k : Fin 10) (c : Dev nD) : (∑ d : Dev nD, O₀ d (cell c (.rcv k)) ()) = N := by
  have h (d : Dev nD) : O₀ d (cell c (.rcv k)) () = if c = pr k d then N else 0 := by
    unfold O₀
    have hz : (∑ j : Fin 10, if c = pr j d ∧ Cl.rcv k = .bar then 1 else 0) = 0 :=
      Finset.sum_eq_zero fun j _ => if_neg fun h => Cl.noConfusion h.2
    rw [OS_apply, OC_apply, sum_all, sum_all, hz, Nat.zero_add,
      Finset.sum_eq_single k (fun j _ hj => if_neg fun h => hj (Cl.rcv.inj h.2).symm) (fun h => absurd (Finset.mem_univ _) h)]
    simp
  rw [Finset.sum_congr rfl fun d _ => h d, sum_peer]

theorem launch_cell (c : Dev nD) (x : Cl) (n : ℕ) (h : (∑ d : Dev nD, O₀ d (cell c x) ()) = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, h]

theorem csem_ne_bar (k : Fin 10) : csem (.rcv k) ≠ csem .bar := fun h => by cases csem_injective h

/-- A device's launch credit: its barrier's ten units, and each receive cell's. -/
theorem creds (c : Dev nD) :
    (Pipeline.launchCred O₀ c : sProp 𝕄)
      ⊢ iprop(cred (tallyAt (cell c .bar) () 10) ∗ bigSep Finset.univ fun k : Fin 10 => cred (tallyAt (cell c (.rcv k)) () N)) := by
  unfold Pipeline.launchCred
  rw [bigSep_univ_at _ (csem .bar), launch_cell c .bar 10 (owed_bar c)]
  refine sep_mono_right ?_
  let e : Fin 10 ↪ SemLoc sig := ⟨fun k : Fin 10 => csem (.rcv k), fun a b h => Cl.rcv.inj (csem_injective h)⟩
  let Ψ : SemLoc sig → sProp 𝕄 := fun sm => cred (tallyOn ((c : Thread nD τ), sm) (launchCredit (Pipeline.owing O₀) 0 ((c : Thread nD τ), sm)))
  have hs : Finset.univ.map e ⊆ Finset.univ.erase (csem .bar) := fun sm hsm => by
    obtain ⟨k, -, rfl⟩ := Finset.mem_map.mp hsm
    exact Finset.mem_erase.mpr ⟨csem_ne_bar k, Finset.mem_univ _⟩
  refine (bigSep_subset (Φ := Ψ) hs).trans ?_
  rw [bigSep_map e]
  exact bigSep_mono fun k _ => Entails.of_eq (congrArg cred (launch_cell c (.rcv k) N (owed_rcv k c)))

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  rw [bigSep_Cl]
  iintro ⟨Hr, ⟨Zb, Zs, Zr⟩, Hi⟩
  isplitl [Zb]; · iexact Zb
  isplitl [Zs Zr Hi]
  · isplitl [Zs Zr]
    · isplitl [Zs] <;> iassumption
    iexact Hi
  iexact Hr

theorem clOf_none {sm : SemLoc sig} (h : ∀ x, csem x ≠ sm) : clOf sm = none := by
  cases e : clOf sm with
  | none => rfl
  | some x => exact absurd ((csem_injective.isPartialInv x sm).mp e) (h x)

theorem stage_none (w : Fin 5) (s : Fin (spec0 w).nbuf) (x : Cl) : csem x ≠ .dma ((spec0 w).sem s) := by
  have h := ownSemFacts.disj
  cases x with
  | bar => intro h; cases h
  | snd k => exact h (.inl (.inl k)) w s
  | rcv k => exact h (.inl (.inr k)) w s

theorem waits (c : Dev nD) : (levAts L lv : sProp 𝕄) ⊢ Pipeline.cellsWaits cfgs (dats m ρ) () 0 c :=
  Pipeline.cellsWaits_intro cfgs (dats m ρ) () 0 c fun w s t =>
    mayWait_stage c _ (clOf_none (stage_none w s)) _ (by
      rcases t with ⟨_ | _, ht⟩
      · exact Or.inl rfl
      · exact Or.inr rfl)

/-! ## The run -/

/-- The contents of window `w`'s array after the run. -/
def finalA (c : Dev nD) (w : Fin cfg0.W) : Buf (Elt F) ((cfg0.win w).arr.view.loc (c : Thread nD τ)) := (dats m ρ 0 c).arrAt w cfg0.N

/-- Every window's array of every device ends at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair run of the mesh from any memory with zero counters terminates, with every window's array at the
    computed contents and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AdaNorm
-- ==== Proof.Frames.lean ====
/-
# The frames

Every program runs, ends with its arguments unchanged and leaves every counter at zero. The kernel and its idealization are one text,
so one run serves both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.AdaNorm

open Cert.Kernel.Gen Cert.KernelIdeal Cert.KernelIdeal.Gen
open Idealize.ShloMosaic
open Idealize.ShloMosaic.TcCoe
open Idealize.SL.Sem

variable {F : FTy → Type} [FloatOps F]

section
variable (m : (ℓ : Loc nD τ sig) → Buf (Elt F) ℓ) (ρ : Dev nD → PrngReg)

/-- After the run each of the four argument arrays holds what it held. -/
theorem args_kept {r} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans ((dats (F := F) m ρ 0 c).arrAt_in (0 : Fin 5) rfl _),
    (h c (1 : Fin 5)).trans ((dats (F := F) m ρ 0 c).arrAt_in (1 : Fin 5) rfl _),
    (h c (2 : Fin 5)).trans ((dats (F := F) m ρ 0 c).arrAt_in (2 : Fin 5) rfl _),
    (h c (3 : Fin 5)).trans ((dats (F := F) m ρ 0 c).arrAt_in (3 : Fin 5) rfl _)⟩

/-- From any memory, for any float values: the mesh runs, its arguments end unchanged, every counter ends at zero. -/
theorem run_frame : θ_run (defs (F := F)) (onTc (τ := τ) (main (F := F))) ⟨m, fun _ => 0, ρ⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  (θ_run defs _ _).mono (fun _ h => ⟨args_kept m ρ h.1, h.2⟩) (run_main m ρ)
end

/-- The two printings of the kernel have one body table. -/
theorem bodies_eq : Cert.Kernel.defs₀ (F := F) = Cert.KernelIdeal.defs₀ (F := F) := by
  unfold Cert.Kernel.defs₀ Cert.KernelIdeal.defs₀
  congr 1
  funext k a
  match k, a with
  | 0, (t, s) => rfl
/-- … and so one table of definitions. -/
theorem defs_eq : Cert.Kernel.defs (F := F) = Cert.KernelIdeal.defs (F := F) := by
  unfold Cert.Kernel.defs Cert.KernelIdeal.defs
  exact congrArg _ bodies_eq

/-- The kernel's frame, at the machine's own floats. -/
theorem frame_kernel : Cert.quiescent_Kernel (hKernel := Cert.Kernel.Gen.facts) := fun m ρ _ => by
  rw [defs_eq]
  exact run_frame (F := Bits) m ρ

/-- The idealized kernel's frame. -/
theorem frame_kernelIdeal : Cert.quiescent_KernelIdeal (hKernelIdeal := Cert.KernelIdeal.Gen.facts) := fun m ρ _ =>
  run_frame (F := Ideal) m ρ

/-- The reference's frame: it is a straight line of host operations that declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AdaNorm
-- ==== Proof.Algebra.lean ====
/-
# The two ways to normalise a row agree

For a row of real numbers: the mean of the squares less the square of the mean is the mean of the squared distances from
the mean, so multiplying by its reciprocal root is dividing by the root of the variance.
-/
module

public import Idealize.ShloMosaic.PureOps.Ideal.Laws
public import Mathlib.Tactic.FieldSimp
public import Mathlib.Tactic.Ring
public import Mathlib.Tactic.Positivity

@[expose] public section

noncomputable section

namespace Cert.AdaNorm

open Idealize.ShloMosaic

variable {n : ℕ}

/-- A sum of real numbers taken among the extended reals. -/
theorem coe_sum (f : Fin n → ℝ) : ∑ j, ((f j : ℝ) : EReal) = ((∑ j, f j : ℝ) : EReal) :=
  (map_sum (⟨⟨fun x : ℝ => (x : EReal), rfl⟩, fun _ _ => rfl⟩ : ℝ →+ EReal) f Finset.univ).symm

/-- The variance two ways. -/
theorem var_two_ways (hn : (n : ℝ) ≠ 0) (f : Fin n → ℝ) (μ : ℝ) (hμ : μ = (∑ j, f j) * (1 / n)) :
    (∑ j, f j * f j) * (1 / n) - μ * μ = (∑ j, (f j - μ) * (f j - μ)) * (1 / n) := by
  have h1 : ∑ j, (f j - μ) * (f j - μ) = (∑ j, f j * f j) - 2 * μ * (∑ j, f j) + n * (μ * μ) := by
    have : ∀ j, (f j - μ) * (f j - μ) = f j * f j - 2 * μ * f j + μ * μ := fun j => by ring
    simp only [this, Finset.sum_add_distrib, Finset.sum_sub_distrib, ← Finset.mul_sum, Finset.sum_const, Finset.card_univ,
      Fintype.card_fin, nsmul_eq_mul]
    ring
  have h2 : ∑ j, f j = μ * n := by rw [hμ]; field_simp
  rw [h1, h2]
  field_simp
  ring

/-- A row normalised by sums and a reciprocal root, and by distances from the mean and a root. -/
theorem normal_eq (hn : (n : ℝ) ≠ 0) (f : Fin n → ℝ) (e : ℝ) (he : 0 < e) (j : Fin n) :
    (((f j : ℝ) : EReal) - (∑ i, ((f i : ℝ) : EReal)) * ((1 / n : ℝ) : EReal))
        * Ideal.rsqrt ((∑ i, ((f i : ℝ) : EReal) * ((f i : ℝ) : EReal)) * ((1 / n : ℝ) : EReal)
            - (∑ i, ((f i : ℝ) : EReal)) * ((1 / n : ℝ) : EReal) * ((∑ i, ((f i : ℝ) : EReal)) * ((1 / n : ℝ) : EReal)) + (e : EReal))
      = Ideal.div (((f j : ℝ) : EReal) - Ideal.div (∑ i, ((f i : ℝ) : EReal)) ((n : ℝ) : EReal))
          (Ideal.sqrt (Ideal.div (∑ i, (((f i : ℝ) : EReal) - Ideal.div (∑ i, ((f i : ℝ) : EReal)) ((n : ℝ) : EReal))
              * (((f i : ℝ) : EReal) - Ideal.div (∑ i, ((f i : ℝ) : EReal)) ((n : ℝ) : EReal))) ((n : ℝ) : EReal) + (e : EReal))) := by
  obtain ⟨μ, hμ⟩ : ∃ μ, μ = (∑ i, f i) * (1 / (n : ℝ)) := ⟨_, rfl⟩
  obtain ⟨v, hv⟩ : ∃ v, v = (∑ i, (f i - μ) * (f i - μ)) * (1 / (n : ℝ)) := ⟨_, rfl⟩
  have hv' := (var_two_ways hn f μ hμ).trans hv.symm
  have hv0 : 0 ≤ v := by
    rw [hv]
    exact mul_nonneg (Finset.sum_nonneg fun i _ => mul_self_nonneg _) (by positivity)
  have hp : 0 < v + e := by linarith
  have hs : Real.sqrt (v + e) ≠ 0 := (Real.sqrt_pos.2 hp).ne'
  simp only [Ideal.div_coe hn, coe_sum, ← EReal.coe_mul, ← EReal.coe_sub, ← EReal.coe_add, ← hμ, hv', ← hv]
  rw [Ideal.rsqrt_coe, Ideal.sqrt_coe, if_neg hp.not_gt, if_neg hp.ne', if_neg hp.not_gt, Ideal.div_coe hs, one_div,
    ← EReal.coe_mul]

end Cert.AdaNorm
-- ==== Proof.Ref.lean ====
/-
# What the reference returns, element by element

At the ideal instance: the reference's result as a mean, a variance and a normalised array, and each of them read at an
index.
-/
module

public import proofs.«01_k».proof.Proof.Gen.ReferenceIdeal.Run
public import Idealize.ShloMosaic.Lib.Pointwise

@[expose] public section

noncomputable section

namespace Cert.AdaNorm.Ref

open Cert.ReferenceIdeal Cert.ReferenceIdeal.Gen
open Idealize.ShloMosaic
open Idealize.ShloMosaic.TcCoe
open Idealize.SL.Sem

variable (X : FVec Ideal S4x1024x8192 .f32) (T : FVec Ideal S4x128 .f32) (W V : FVec Ideal S128x8192 .f32)

/-- The number of columns, and it less the correction (zero), as the reference spells them. -/
def count : FVec Ideal S_ .f32 := constant S_ .f32 0x46000000#32
def count' : FVec Ideal S_ .f32 := subf count (sitofp .f32 (constantI S_ 32 0#32))
/-- The sum of each row, with a unit axis in its columns' place. -/
def rowSum (Y : FVec Ideal S4x1024x8192 .f32) : FVec Ideal S4x1024x1 .f32 :=
  broadcastInDim S4x1024x1 ![0, 1] bcast_S4x1024_S4x1024x1_0_1
    (Host.reduceAdd Y (constant S_ .f32 0x00000000#32) reducesTo_S4x1024x8192_S4x1024_d2 h_S_)
/-- A value to each row over the row's columns. -/
def spread (v : FVec Ideal S4x1024x1 .f32) : FVec Ideal S4x1024x8192 .f32 :=
  broadcastInDim S4x1024x8192 ![0, 1, 2] bcast_S4x1024x1_S4x1024x8192_0_1_2 v
/-- The rows' means, the array less them, and the rows' variances. -/
def mean : FVec Ideal S4x1024x1 .f32 := Host.divf (rowSum X) (broadcastInDim S4x1024x1 ![] bcast_S_S4x1024x1 count)
def centred : FVec Ideal S4x1024x8192 .f32 := subf X (spread (mean X))
def var : FVec Ideal S4x1024x1 .f32 :=
  select (broadcastInDim S4x1024x1 ![] bcast_S_S4x1024x1 (cmpf .ogt count' (constant S_ .f32 0x00000000#32)))
    (Host.divf (rowSum (mulf (centred X) (centred X))) (broadcastInDim S4x1024x1 ![] bcast_S_S4x1024x1 count'))
    (broadcastInDim S4x1024x1 ![] bcast_S_S4x1024x1 (id (constant S_ .f32 0x7FC00000#32)))
/-- The normalised array. -/
def normed : FVec Ideal S4x1024x8192 .f32 :=
  Host.divf (centred X) (spread (Host.sqrt (addf (var X) (broadcastInDim S4x1024x1 ![] bcast_S_S4x1024x1 (constant S_ .f32 0x3727C5AC#32)))))
/-- A product with the embedding, with a unit axis in the rows' place. -/
def proj (M : FVec Ideal S128x8192 .f32) : FVec Ideal S4x1x8192 .f32 :=
  broadcastInDim S4x1x8192 ![0, 2] bcast_S4x8192_S4x1x8192_0_2
    (Host.dotGeneral dot_S4x128_S128x8192_S4x8192_1_0_0_1_n_n none T M)
/-- A value to each batch and column over the rows. -/
def over (v : FVec Ideal S4x1x8192 .f32) : FVec Ideal S4x1024x8192 .f32 :=
  broadcastInDim S4x1024x8192 ![0, 1, 2] bcast_S4x1x8192_S4x1024x8192_0_1_2 v
/-- The reference's result. -/
def out : FVec Ideal S4x1024x8192 .f32 :=
  addf (mulf (normed X) (over (addf (broadcastInDim S4x1x8192 ![] bcast_S_S4x1x8192 (constant S_ .f32 0x3F800000#32)) (proj T W))))
    (over (proj T V))

/-- The reference runs, and ends with its result at `out` of its arguments and the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

/-- The number of columns as a scalar. -/
def cnt : EReal := Ideal.ofBits .f32 0x46000000#32
def eps : EReal := Ideal.ofBits .f32 0x3727C5AC#32

theorem rowSum_at (Y : FVec Ideal S4x1024x8192 .f32) (b : Fin 4) (s : Fin 1024) (u : Fin 1) :
    rowSum Y (ix3 b s u) = ∑ j : Fin 8192, Y (ix3 b s j) := by
  pointwise [rowSum]
theorem mean_at (b : Fin 4) (s : Fin 1024) (u : Fin 1) :
    mean X (ix3 b s u) = Ideal.div (∑ j : Fin 8192, X (ix3 b s j)) cnt := by
  pointwise [mean, count, cnt, rowSum]
theorem centred_at (b : Fin 4) (s : Fin 1024) (j : Fin 8192) :
    centred X (ix3 b s j) = X (ix3 b s j) - mean X (ix3 b s (0 : Fin 1)) := by
  pointwise [centred, spread]
/-- The number of columns is 8192, and the correction takes nothing from it. -/
theorem cnt_eq : cnt = ((8192 : ℝ) : EReal) := by
  simp [cnt, Ideal.ofBits, Ideal.ieee, -EReal.coe_mul]; norm_num
theorem cnt_less : cnt - FloatOps.sitofp (F := Ideal) .f32 (0#32 : BitVec 32) = cnt := by
  show cnt - (((0#32 : BitVec 32).toInt : ℝ) : EReal) = cnt
  simp
/-- The variance: the guard on the number of columns holds. -/
theorem var_at (b : Fin 4) (s : Fin 1024) (u : Fin 1) :
    var X (ix3 b s u) = Ideal.div (∑ j : Fin 8192, centred X (ix3 b s j) * centred X (ix3 b s j)) cnt := by
  have hc : (0 : EReal) < cnt := by rw [cnt_eq]; exact_mod_cast (by norm_num : (0 : ℝ) < 8192)
  have hl := cnt_less
  unfold cnt at hl hc ⊢
  pointwise [var, count', count, rowSum]
  rw [hl, if_pos hc]
theorem out_at (b : Fin 4) (s : Fin 1024) (j : Fin 8192) :
    out X T W V (ix3 b s j) = Ideal.div (centred X (ix3 b s j)) (Ideal.sqrt (var X (ix3 b s (0 : Fin 1)) + eps))
        * (1 + ∑ e : Fin 128, T (ix2 b e) * W (ix2 e j)) + ∑ e : Fin 128, T (ix2 b e) * V (ix2 e j) := by
  pointwise [out, normed, spread, over, proj, eps]

end Cert.AdaNorm.Ref
-- ==== Proof.Result.lean ====
/-
# The arrays behind the windows

Each of the five windows is the whole of its array: a device's input blocks are its argument arrays, and its result array
ends as the block it writes.
-/
module

public import proofs.«01_k».proof.Proof.Launch
public import Idealize.ShloMosaic.Lib.Pipeline.Value

@[expose] public section

noncomputable section

namespace Cert.AdaNorm

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

theorem xAt_eq (c : Dev nD) : xAt m c = m ((c : Thread nD τ).loc main_arg0) :=
  Memref.read_access_unit_zero (Elt F) main_arg0 (funext fun a => by fin_cases a <;> decide) (fun a => by fin_cases a <;> decide) _
theorem tAt_eq (c : Dev nD) : tAt m c = m ((c : Thread nD τ).loc main_arg1) :=
  Memref.read_access_unit_zero (Elt F) main_arg1 (funext fun a => by fin_cases a <;> decide) (fun a => by fin_cases a <;> decide) _
theorem wsAt_eq (c : Dev nD) : wsAt m c = m ((c : Thread nD τ).loc main_arg2) :=
  Memref.read_access_unit_zero (Elt F) main_arg2 (funext fun a => by fin_cases a <;> decide) (fun a => by fin_cases a <;> decide) _
theorem whAt_eq (c : Dev nD) : whAt m c = m ((c : Thread nD τ).loc main_arg3) :=
  Memref.read_access_unit_zero (Elt F) main_arg3 (funext fun a => by fin_cases a <;> decide) (fun a => by fin_cases a <;> decide) _

/-- The result's one block, read back after the run, is what the body left. -/
theorem finalA_block (c : Dev nD) : (win0_4.blk (0 : Fin 1)).view.read (Elt F) (finalA m ρ c (4 : Fin 5)) = outAt m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _
/-- … and it is the whole result array. -/
theorem finalA_out (c : Dev nD) : finalA m ρ c (4 : Fin 5) = outAt m c :=
  (Memref.read_access_unit_zero (Elt F) main_v1 (funext fun a => by fin_cases a <;> decide) (fun a => by fin_cases a <;> decide) _).symm.trans
    (finalA_block m ρ c)

end Cert.AdaNorm
-- ==== Proof.Total.lean ====
/-
# The two exchanges reach every device once

The pages a device holds after the plane exchange come from the eight devices of its plane; the planes' pages it holds
after the second exchange come from its places in the four planes. Together they name each of the 32 devices once, and
the devices' 256 columns each are the 8192 columns of the whole.
-/
module

public import proofs.«01_k».proof.Proof.Peers
public import Mathlib.Algebra.BigOperators.Fin
public import Mathlib.Logic.Equiv.Fin.Basic

@[expose] public section

noncomputable section

namespace Cert.AdaNorm

open Cert.KernelIdeal
open Idealize.ShloMosaic

/-- Whose sums slot `j` of the plane exchange holds. -/
def from1 (c : Dev nD) : Fin 8 → Dev nD := Fin.cons c fun j : Fin 7 => pr (opp (Fin.castLE (by decide) j)) c
/-- Whose plane's sums slot `i` of the cross-plane exchange holds. -/
def from2 (c : Dev nD) : Fin 4 → Dev nD := Fin.cons c fun j : Fin 3 => pr (opp (Fin.natAdd 7 j)) c

/-- Slot `j` holds the sums of the plane's device `j` places back. -/
theorem from1_val (c : Dev nD) (j : Fin 8) : (from1 c j).val = c.val / 8 * 8 + (c.val % 8 + (8 - j.val)) % 8 := by
  revert c j; decide
/-- Slot `i` holds the sums of the plane `i` planes back. -/
theorem from2_val (c : Dev nD) (i : Fin 4) : (from2 c i).val = (c.val + 8 * (4 - i.val)) % 32 := by
  revert c i; decide

/-- The two exchanges' slots, as places, name every device once. -/
theorem from_bijective (c : Dev nD) : Function.Bijective fun p : Fin 4 × Fin 8 => from1 (from2 c p.1) p.2 := by
  rw [Fintype.bijective_iff_injective_and_card]
  refine ⟨fun p q h => ?_, by simp [nD]⟩
  have h' := congrArg Fin.val h
  simp only [from1_val, from2_val] at h'
  have hc := c.isLt
  have h1 := p.1.isLt
  have h2 := p.2.isLt
  have h3 := q.1.isLt
  have h4 := q.2.isLt
  have e1 : p.1 = q.1 := Fin.ext (by omega)
  rw [e1] at h'
  exact Prod.ext e1 (Fin.ext (by omega))

variable {M : Type} [AddCommMonoid M]

/-- Adding over the two exchanges' slots is adding over the devices. -/
theorem sum_from (c : Dev nD) (f : Dev nD → M) : ∑ i : Fin 4, ∑ j : Fin 8, f (from1 (from2 c i) j) = ∑ d : Dev nD, f d := by
  rw [← Fintype.sum_prod_type' (f := fun i j => f (from1 (from2 c i) j))]
  exact (from_bijective c).sum_comp f

/-- Column `k` of device `c`, as a column of the whole. -/
def col (c : Dev nD) (k : Fin 256) : Fin 8192 := ⟨c.val * 256 + k.val, by have := c.isLt; have := k.isLt; simp only [nD] at *; omega⟩

/-- Adding over the devices and their columns is adding over the columns of the whole. -/
theorem sum_col (f : Fin 8192 → M) : ∑ c : Dev nD, ∑ k : Fin 256, f (col c k) = ∑ j : Fin 8192, f j := by
  rw [← Fintype.sum_prod_type' (f := fun c k => f (col c k))]
  refine Fintype.sum_equiv (finProdFinEquiv (m := 32) (n := 256)) _ _ fun p => congrArg f (Fin.ext ?_)
  show p.1.val * 256 + p.2.val = p.2.val + 256 * p.1.val
  omega

end Cert.AdaNorm
-- ==== Proof.Value.lean ====
/-
# What a device writes, element by element

At the ideal instance: the entry at a row and a column of the block that device `c` writes, as sums over the devices'
input blocks.
-/
module

public import proofs.«01_k».proof.Proof.Pages
public import proofs.«01_k».proof.Proof.Total
public import Idealize.ShloMosaic.Lib.Pointwise
public import Idealize.ShloMosaic.Lib.ValueLayout

@[expose] public section

noncomputable section

namespace Cert.AdaNorm

open Cert.KernelIdeal Cert.KernelIdeal.Gen
open Idealize.ShloMosaic
open Idealize.ShloMosaic.TcCoe

variable (m : (ℓ : Loc nD τ sig) → Buf (Elt Ideal) ℓ)

/-- A device's four input blocks, as arrays of extended reals. -/
def xI (c : Dev nD) : FVec Ideal S4x1024x256 .f32 := xAt m c
def tI (c : Dev nD) : FVec Ideal S4x128 .f32 := tAt m c
def wsI (c : Dev nD) : FVec Ideal S128x256 .f32 := wsAt m c
def whI (c : Dev nD) : FVec Ideal S128x256 .f32 := whAt m c

/-- A page's part from one block: in rows 0 to 3 the sum of the block's row, in rows 4 to 7 the sum of its squares. -/
def part (x : FVec Ideal S4x1024x256 .f32) (r : Fin 8) (s : Fin 1024) : EReal :=
  if h : r.val < 4 then ∑ k : Fin 256, x (ix3 ⟨r.val, h⟩ s k)
  else ∑ k : Fin 256, x (ix3 (⟨r.val - 4, by omega⟩ : Fin 4) s k) * x (ix3 (⟨r.val - 4, by omega⟩ : Fin 4) s k)

/-- A device's own page holds its block's parts. -/
theorem pay2_at (x : FVec Ideal S4x1024x256 .f32) (r : Fin 8) (s : Fin 1024) : k0_pay2 (F := Ideal) x (ix2 r s) = part x r s := by
  pointwise [k0_pay2, k0_pay1, part]
/-- Giving a page a unit axis moves no entry. -/
theorem pay3_at (v : FVec Ideal S8x1024 .bf16) (u : Fin 1) (r : Fin 8) (s : Fin 1024) :
    k0_pay3 (F := Ideal) v (ix3 u r s) = v (ix2 r s) := by
  pointwise [k0_pay3]
/-- The plane's page holds the sum of the eight slots. -/
theorem pay7_at (v : FVec Ideal S8x8x1024 .bf16) (u : Fin 1) (r : Fin 8) (s : Fin 1024) :
    k0_pay7 (F := Ideal) v (ix3 u r s) = ∑ j : Fin 8, v (ix3 j r s) := by
  pointwise [k0_pay7]
/-- The sum of the four slots. -/
theorem pay8_at (v : FVec Ideal S4x8x1024 .bf16) (r : Fin 8) (s : Fin 1024) :
    k0_pay8 (F := Ideal) v (ix2 r s) = ∑ i : Fin 4, v (ix3 i r s) := by
  pointwise [k0_pay8]

/-- A one-page array read as a page. -/
theorem flat_at (w : S1x8x1024.Idx → Elt Ideal .bf16) (r : Fin 8) (s : Fin 1024) :
    flat w (ix2 r s) = w (ix3 (0 : Fin 1) r s) := by
  unfold flat
  rw [ix2_eq_valueIdx, ValueIdx.reshapeEquiv_ix2_1ab, ix3_eq_valueIdx]
  rfl

theorem stack_at {n : ℕ} (X : Fin n → Pg Ideal) (j : Fin n) (r : Fin 8) (s : Fin 1024) :
    stack X (ix3 j r s) = X j (ix2 r s) := by
  rw [ix2_eq_valueIdx]
  rfl

theorem P1_at (c : Dev nD) (r : Fin 8) (s : Fin 1024) : P1 m c (ix2 r s) = part (xI m c) r s := by
  unfold P1
  rw [flat_at, pay3_at]
  exact pay2_at (xI m c) r s

/-- Slot `j` of the plane exchange holds the page of the device it is from. -/
theorem X1_eq (c : Dev nD) (j : Fin 8) : X1 m c j = P1 m (from1 c j) := by
  refine Fin.cases rfl (fun j => rfl) j
theorem P2_at (c : Dev nD) (r : Fin 8) (s : Fin 1024) : P2 m c (ix2 r s) = ∑ j : Fin 8, part (xI m (from1 c j)) r s := by
  unfold P2
  rw [flat_at, pay7_at]
  exact Finset.sum_congr rfl fun j _ => by rw [stack_at, X1_eq, P1_at]

/-- Slot `i` of the cross-plane exchange holds the plane page of the device it is from. -/
theorem X2_eq (c : Dev nD) (i : Fin 4) : X2 m c i = P2 m (from2 c i) := by
  refine Fin.cases rfl (fun j => rfl) i

/-- The whole row's sum (of squares, in rows 4 to 7): over every device's block. -/
def total (r : Fin 8) (s : Fin 1024) : EReal := ∑ d : Dev nD, part (xI m d) r s

/-- After both exchanges every device holds the whole rows' sums. -/
theorem total_at (c : Dev nD) (r : Fin 8) (s : Fin 1024) : k0_pay8 (F := Ideal) (stack (X2 m c)) (ix2 r s) = total m r s := by
  rw [pay8_at]
  unfold total
  rw [← sum_from c fun d => part (xI m d) r s]
  exact Finset.sum_congr rfl fun i _ => by rw [stack_at, X2_eq, P2_at]

/-- The reciprocal of the number of columns, and the small number under the root, as the kernel spells them. -/
def invN : EReal := Ideal.ofBits .f32 0x39000000#32
def eps : EReal := Ideal.ofBits .f32 0x3727C5AC#32

/-- The row of a page that holds the sum of row `b`; of its squares. -/
def lo (b : Fin 4) : Fin 8 := ⟨b.val, by omega⟩
def hi (b : Fin 4) : Fin 8 := ⟨4 + b.val, by omega⟩

/-- The reciprocal root of a row's variance, and a row's mean. -/
theorem root_at (v : FVec Ideal S4x8x1024 .bf16) (b : Fin 4) (s : Fin 1024) : k0_pay10 (F := Ideal) v (ix2 b s)
    = Ideal.rsqrt (k0_pay8 (F := Ideal) v (ix2 (hi b) s) * invN
        - k0_pay8 (F := Ideal) v (ix2 (lo b) s) * invN * (k0_pay8 (F := Ideal) v (ix2 (lo b) s) * invN) + eps) := by
  pointwise [k0_pay10, k0_pay9, k0_pay8, invN, eps, hi, lo]
theorem mean_at (v : FVec Ideal S4x8x1024 .bf16) (b : Fin 4) (s : Fin 1024) (u : Fin 1) : k0_pay11 (F := Ideal) v (ix3 b s u)
    = k0_pay8 (F := Ideal) v (ix2 (lo b) s) * invN := by
  pointwise [k0_pay11, k0_pay9, k0_pay8, invN, lo]

/-- A product with the embedding. -/
theorem scale_at (t : FVec Ideal S4x128 .f32) (w : FVec Ideal S128x256 .f32) (b : Fin 4) (k : Fin 256) :
    k0_pay5 (F := Ideal) (k0_pay4 t) w (ix2 b k) = ∑ e : Fin 128, t (ix2 b e) * w (ix2 e k) := by
  pointwise [k0_pay5, k0_pay4]
theorem shift_at (t : FVec Ideal S4x128 .f32) (w : FVec Ideal S128x256 .f32) (b : Fin 4) (k : Fin 256) :
    k0_pay6 (F := Ideal) t w (ix2 b k) = ∑ e : Fin 128, t (ix2 b e) * w (ix2 e k) := by
  pointwise [k0_pay6]

theorem pay12_at (x : FVec Ideal S4x1024x256 .f32) (p q : FVec Ideal S4x256 .f32) (i : FVec Ideal S4x1024 .f32)
    (mu : FVec Ideal S4x1024x1 .f32) (b : Fin 4) (s : Fin 1024) (k : Fin 256) :
    k0_pay12 (F := Ideal) x p q i mu (ix3 b s k)
      = (x (ix3 b s k) - mu (ix3 b s (0 : Fin 1))) * i (ix2 b s) * (1 + p (ix2 b k)) + q (ix2 b k) := by
  pointwise [k0_pay12]
theorem pay1_at (x : FVec Ideal S4x1024x256 .f32) (b : Fin 4) (s : Fin 1024) (k : Fin 256) :
    k0_pay1 (F := Ideal) x (ix3 b s k) = x (ix3 b s k) := by
  pointwise [k0_pay1]

/-- The entry of the block device `c` writes, at a row and a column. -/
theorem out_at (c : Dev nD) (b : Fin 4) (s : Fin 1024) (k : Fin 256) :
    outAt m c (ix3 b s k)
      = (xI m c (ix3 b s k) - total m (lo b) s * invN)
          * Ideal.rsqrt (total m (hi b) s * invN - total m (lo b) s * invN * (total m (lo b) s * invN) + eps)
          * (1 + ∑ e : Fin 128, tI m c (ix2 b e) * wsI m c (ix2 e k))
        + ∑ e : Fin 128, tI m c (ix2 b e) * whI m c (ix2 e k) := by
  show k0_pay12 (F := Ideal) (k0_pay1 (xI m c)) (k0_pay5 (k0_pay4 (tI m c)) (wsI m c)) (k0_pay6 (tI m c) (whI m c))
    (k0_pay10 (stack (X2 m c))) (k0_pay11 (stack (X2 m c))) (ix3 b s k) = _
  rw [pay12_at, pay1_at, scale_at, shift_at, root_at, mean_at, total_at, total_at]

end Cert.AdaNorm
-- ==== Proof.Algebraic.lean ====
/-
# The kernel computes the reference

Where every entry of `x` is a real number, the block each device writes is its block of the reference's result: the pages
the devices exchange add up to the sums of the whole rows, and from these the mean and the variance are the reference's.
-/
module

public import proofs.«01_k».proof.Proof.Algebra
public import proofs.«01_k».proof.Proof.Frames
public import proofs.«01_k».proof.Proof.Ref
public import proofs.«01_k».proof.Proof.Result
public import proofs.«01_k».proof.Proof.Value
public import Idealize.ShloMosaic.Lib.LayoutAt

@[expose] public section

noncomputable section

namespace Cert.AdaNorm

open Cert.KernelIdeal Cert.KernelIdeal.Gen
open Idealize.ShloMosaic
open Idealize.ShloMosaic.TcCoe
open Idealize.SL.Sem

/-- The shapes the two precondition functions name fit together. -/
theorem preFacts_kernel : Cert.Pre_finite_x_KernelIdeal.Facts := ⟨by decide⟩
theorem preFacts_reference : Cert.Pre_finite_x_ReferenceIdeal.Facts := ⟨by decide⟩

/-- A magnitude below infinity is a real number's. -/
theorem real_of_lt (a : EReal) (h : max a (-a) < ⊤) : ∃ r : ℝ, a = (r : EReal) := by
  induction a with
  | bot => simp at h
  | coe r => exact ⟨r, rfl⟩
  | top => simp at h

/-- The word the precondition compares with is infinity. -/
theorem inf_eq : Ideal.ofBits .f32 0x7F800000#32 = (⊤ : EReal) := by
  simp [Ideal.ofBits, Ideal.ieee]

section
variable (m : (ℓ : Loc nD τ sig) → Buf (Elt Ideal) ℓ)

/-- The precondition: every entry of every device's block is a real number. -/
theorem finite (h : Cert.Pre_KernelIdeal_finite_x_KernelIdeal (hPre_finite_x_KernelIdeal := preFacts_kernel) m)
    (c : Dev nD) (b : Fin 4) (s : Fin 1024) (k : Fin 256) : ∃ r : ℝ, xI m c (ix3 b s k) = (r : EReal) := by
  have h1 : Ideal.cmp .olt (max (xI m c (ix3 b s k)) (-(xI m c (ix3 b s k)))) (Ideal.ofBits .f32 0x7F800000#32) = 1#1 := by
    rw [show xI m c = m ((c : Thread nD τ).loc main_arg0) from xAt_eq m c]
    exact congrFun (h c) (ix3 b s k)
  rw [inf_eq] at h1
  refine real_of_lt _ ?_
  by_contra hn
  simp [Ideal.cmp, hn] at h1

/-- Device `c`'s block of a row of `8192`, at its `k`-th place. -/
theorem block3_at (X : (⟨3, ![4, 1024, 8192]⟩ : Shape).Idx → EReal) (c : Dev nD) (b : Fin 4) (s : Fin 1024) (k : Fin 256) :
    Layout.block ⟨3, ![4, 1024, 256]⟩ ⟨3, ![4, 1024, 8192]⟩ 2 32 c X (by decide) (ix3 b s k) = X (ix3 b s (col c k)) := by
  rw [Layout.block_apply]
  refine congrArg X (funext fun a => Fin.ext ?_)
  rw [Layout.Tiles.idx_val]
  fin_cases a <;> simp [col]
theorem block2_at (W : (⟨2, ![128, 8192]⟩ : Shape).Idx → EReal) (c : Dev nD) (e : Fin 128) (k : Fin 256) :
    Layout.block ⟨2, ![128, 256]⟩ ⟨2, ![128, 8192]⟩ 1 32 c W (by decide) (ix2 e k) = W (ix2 e (col c k)) := by
  rw [Layout.block_apply]
  refine congrArg W (funext fun a => Fin.ext ?_)
  rw [Layout.Tiles.idx_val]
  fin_cases a <;> simp [col]

variable (X : FVec Ideal Cert.ReferenceIdeal.S4x1024x8192 .f32)

/-- The exchanged pages add up to the whole rows' sums, -/
theorem total_lo (hx : ∀ c b s k, xI m c (ix3 b s k) = X (ix3 b s (col c k))) (b : Fin 4) (s : Fin 1024) :
    total m (lo b) s = ∑ j : Fin 8192, X (ix3 b s j) := by
  rw [← sum_col fun j => X (ix3 b s j)]
  refine Finset.sum_congr rfl fun c _ => ?_
  have hb : (lo b).val < 4 := b.isLt
  rw [part, dif_pos hb]
  exact Finset.sum_congr rfl fun k _ => hx c b s k
/-- and sums of squares. -/
theorem total_hi (hx : ∀ c b s k, xI m c (ix3 b s k) = X (ix3 b s (col c k))) (b : Fin 4) (s : Fin 1024) :
    total m (hi b) s = ∑ j : Fin 8192, X (ix3 b s j) * X (ix3 b s j) := by
  rw [← sum_col fun j => X (ix3 b s j) * X (ix3 b s j)]
  refine Finset.sum_congr rfl fun c _ => ?_
  have hb : ¬(hi b).val < 4 := by simp [hi]
  have he : (⟨(hi b).val - 4, by have := (hi b).isLt; omega⟩ : Fin 4) = b := Fin.ext (by simp [hi])
  rw [part, dif_neg hb]
  refine Finset.sum_congr rfl fun k _ => ?_
  rw [he, hx c b s k]

/-- The kernel's factor is the reciprocal of the number of columns. -/
theorem invN_eq : invN = ((1 / ((8192 : ℕ) : ℝ) : ℝ) : EReal) := by
  simp [invN, Ideal.ofBits, Ideal.ieee, -EReal.coe_mul]; norm_num
/-- The two programs add one positive real number to the variance. -/
theorem eps_eq : ∃ e : ℝ, 0 < e ∧ eps = (e : EReal) := by
  refine ⟨_, ?_, by simp [eps, Ideal.ofBits, Ideal.ieee, -EReal.coe_mul]; rfl⟩
  norm_num

variable (T : FVec Ideal Cert.ReferenceIdeal.S4x128 .f32) (W V : FVec Ideal Cert.ReferenceIdeal.S128x8192 .f32)

/-- What device `c` writes is its block of the reference's result. -/
theorem outAt_eq (hf : ∀ c b s k, ∃ r : ℝ, xI m c (ix3 b s k) = (r : EReal))
    (hx : ∀ c b s k, xI m c (ix3 b s k) = X (ix3 b s (col c k))) (ht : ∀ c b e, tI m c (ix2 b e) = T (ix2 b e))
    (hw : ∀ c e k, wsI m c (ix2 e k) = W (ix2 e (col c k))) (hv : ∀ c e k, whI m c (ix2 e k) = V (ix2 e (col c k)))
    (c : Dev nD) (b : Fin 4) (s : Fin 1024) (k : Fin 256) :
    outAt m c (ix3 b s k) = Ref.out X T W V (ix3 b s (col c k)) := by
  have hr : ∀ j : Fin 8192, ∃ r : ℝ, X (ix3 b s j) = (r : EReal) := fun j => by
    have hj : col ⟨j.val / 256, by have := j.isLt; simp only [nD]; omega⟩ ⟨j.val % 256, Nat.mod_lt _ (by decide)⟩ = j :=
      Fin.ext (by simp only [col]; omega)
    have := hx ⟨j.val / 256, by have := j.isLt; simp only [nD]; omega⟩ b s ⟨j.val % 256, Nat.mod_lt _ (by decide)⟩
    rw [hj] at this
    rw [← this]
    exact hf _ b s _
  choose f hfX using hr
  obtain ⟨e, he, hee⟩ := eps_eq
  have hee' : Ref.eps = (e : EReal) := hee
  have hcnt : Ref.cnt = (((8192 : ℕ) : ℝ) : EReal) := by rw [Ref.cnt_eq]; norm_num
  rw [out_at, Ref.out_at, total_lo m X hx, total_hi m X hx, hx, invN_eq, hee, hee', Ref.var_at]
  simp only [Ref.centred_at, Ref.mean_at, hcnt, hfX, ht, hw, hv]
  rw [normal_eq (n := 8192) (by norm_num) f e he (col c k)]
end

/-- The algebraic claim. -/
theorem algebraic : Cert.algebraic_KernelIdeal_ReferenceIdeal_pre_finite_x_KernelIdeal (hKernelIdeal := Cert.KernelIdeal.Gen.facts)
    (hReferenceIdeal := Cert.ReferenceIdeal.Gen.facts) (hPre_finite_x_KernelIdeal := preFacts_kernel) := by
  intro m g m' g' hpre hagree
  refine ⟨_, ?_, (θ_run Cert.ReferenceIdeal.defs _ _).mono (fun r h => h 0) (Ref.run_out m' g')⟩
  refine (θ_run defs _ _).mono (fun r h c => ⟨?_, args_kept m g h.1 c⟩) (run_main (F := Ideal) m g)
  refine ((h.1 c (4 : Fin 5)).trans (finalA_out m g c)).trans (funext fun i => ?_)
  obtain ⟨b, s, k, rfl⟩ : ∃ (b : Fin 4) (s : Fin 1024) (k : Fin 256), i = ix3 b s k :=
    ⟨i 0, i 1, i 2, funext fun a => by fin_cases a <;> rfl⟩
  refine (outAt_eq m _ _ _ _ (finite m hpre) ?_ ?_ ?_ ?_ c b s k).trans (block3_at _ c b s k).symm
  · exact fun c b s k => (congrFun ((xAt_eq m c).trans (hagree c).1) (ix3 b s k)).trans (block3_at _ c b s k)
  · exact fun c b e => congrFun ((tAt_eq m c).trans (hagree c).2.1) (ix2 b e)
  · exact fun c e k => (congrFun ((wsAt_eq m c).trans (hagree c).2.2.1) (ix2 e k)).trans (block2_at _ c e k)
  · exact fun c e k => (congrFun ((whAt_eq m c).trans (hagree c).2.2.2) (ix2 e k)).trans (block2_at _ c e k)

end Cert.AdaNorm
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims together, after the facts of every printed program. -/
theorem claim : Cert.Claim := ⟨Cert.Kernel.Gen.facts, Cert.KernelIdeal.Gen.facts, Cert.ReferenceIdeal.Gen.facts,
  Cert.AdaNorm.preFacts_kernel, Cert.AdaNorm.preFacts_reference,
  Cert.AdaNorm.frame_kernel, Cert.AdaNorm.frame_kernelIdeal, fun m ρ _ => Cert.AdaNorm.frame_kernelIdeal m ρ trivial,
  Cert.AdaNorm.frame_referenceIdeal, fun m ρ _ => Cert.AdaNorm.frame_referenceIdeal m ρ trivial, trivial,
  Cert.AdaNorm.algebraic⟩

end Cert.Proof

end
